-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_leaders_distinct [hPre_leaders_distinct : Cert.Pre_leaders_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_leaders_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_leaders_distinct [hPre_leaders_distinct : Cert.Pre_leaders_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_leaders_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_leaders_distinct [hKernelIdeal : Cert.KernelIdeal.Facts] [hPre_leaders_distinct : Cert.Pre_leaders_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_leaders_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_leaders_distinct [hReferenceIdeal : Cert.ReferenceIdeal.Facts] [hPre_leaders_distinct : Cert.Pre_leaders_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_leaders_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_leaders_distinct [hKernelIdeal : Cert.KernelIdeal.Facts] [hReferenceIdeal : Cert.ReferenceIdeal.Facts] [hPre_leaders_distinct : Cert.Pre_leaders_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_leaders_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_leaders_distinct : Cert.Pre_leaders_distinct.Facts),
    quiescent_Kernel (hKernel := hKernel)
    ∧ quiescent_KernelIdeal (hKernelIdeal := hKernelIdeal)
    ∧ quiescent_KernelIdeal_pre_leaders_distinct (hKernelIdeal := hKernelIdeal) (hPre_leaders_distinct := hPre_leaders_distinct)
    ∧ quiescent_ReferenceIdeal (hReferenceIdeal := hReferenceIdeal)
    ∧ quiescent_ReferenceIdeal_pre_leaders_distinct (hReferenceIdeal := hReferenceIdeal) (hPre_leaders_distinct := hPre_leaders_distinct)
    ∧ preserves_Kernel_KernelIdeal
    ∧ algebraic_KernelIdeal_ReferenceIdeal_pre_leaders_distinct (hKernelIdeal := hKernelIdeal) (hReferenceIdeal := hReferenceIdeal) (hPre_leaders_distinct := hPre_leaders_distinct)
-- ==== Pre_leaders_distinct.lean ====
abbrev S1x16x2048x64 : Shape := ⟨4, ![1, 16, 2048, 64]⟩
abbrev S1x16x64x2048 : Shape := ⟨4, ![1, 16, 64, 2048]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x16x2048x2048 : Shape := ⟨4, ![1, 16, 2048, 2048]⟩
abbrev S_ : Shape := ⟨0, ![]⟩
abbrev S1x16x2048x33 : Shape := ⟨4, ![1, 16, 2048, 33]⟩
abbrev S1x16x2048x32 : Shape := ⟨4, ![1, 16, 2048, 32]⟩

class Facts : Prop where
  transposes_S1x16x2048x64_S1x16x64x2048_0_1_3_2 : S1x16x2048x64.Transposes [0, 1, 3, 2] S1x16x64x2048
  shapeCasts_S1x16x2048x64_S16x2048x64 : S1x16x2048x64.ShapeCasts S16x2048x64
  shapeCasts_S1x16x64x2048_S16x64x2048 : S1x16x64x2048.ShapeCasts S16x64x2048
  bcast_S16x2048x2048_S1x16x2048x2048_1_2_3 : S16x2048x2048.BroadcastsInDim S1x16x2048x2048 (![1, 2, 3] : Fin 3 → Fin S1x16x2048x2048.rank)
  bcast_S_S1x16x2048x2048 : S_.BroadcastsInDim S1x16x2048x2048 (![] : Fin 0 → Fin S1x16x2048x2048.rank)
  sliceFits_S1x16x2048x2048_S1x16x2048x33 : S1x16x2048x2048.Slices (fun _ => 0) S1x16x2048x33
  slices_S1x16x2048x33_S1x16x2048x32_0_0_0_0 : S1x16x2048x33.Slices ![0, 0, 0, 0] S1x16x2048x32
  slices_S1x16x2048x33_S1x16x2048x32_0_0_0_1 : S1x16x2048x33.Slices ![0, 0, 0, 1] S1x16x2048x32
  dot_S16x2048x64_S16x64x2048_S16x2048x2048_2_1_1_2_0_0_wf : DotDims.WF S16x2048x64 S16x64x2048 S16x2048x2048 [2] [1] [1] [2] [0] [0]

variable [Facts]

def dot_S16x2048x64_S16x64x2048_S16x2048x2048_2_1_1_2_0_0 : DotDims S16x2048x64 S16x64x2048 S16x2048x2048 where
  lhsContracting := [2]
  rhsContracting := [1]
  lhsNonContracting := [1]
  rhsNonContracting := [2]
  lhsBatch := [0]
  rhsBatch := [0]
  wf := dot_S16x2048x64_S16x64x2048_S16x2048x2048_2_1_1_2_0_0_wf
def fn {F : FTy → Type} [FloatOps F] (main_arg0 : FVec F S1x16x2048x64 .f32) (main_arg1 : FVec F S1x16x2048x64 .f32) (main_arg2 : FVec F S1x16x2048x64 .f32) : IVec S1x16x2048x32 1 :=
  let main_v0 : FVec F S1x16x64x2048 .f32 := (transpose S1x16x64x2048 [0, 1, 3, 2] · transposes_S1x16x2048x64_S1x16x64x2048_0_1_3_2) main_arg1
  let main_v1 : FVec F S16x2048x64 .f32 := shapeCast S16x2048x64 main_arg0 shapeCasts_S1x16x2048x64_S16x2048x64
  let main_v2 : FVec F S16x64x2048 .f32 := shapeCast S16x64x2048 main_v0 shapeCasts_S1x16x64x2048_S16x64x2048
  let main_v3 : FVec F S16x2048x2048 .f32 := (fun l r => Host.dotGeneral dot_S16x2048x64_S16x64x2048_S16x2048x2048_2_1_1_2_0_0 none l r) main_v1 main_v2
  let main_v4 : FVec F S1x16x2048x2048 .f32 := broadcastInDim S1x16x2048x2048 ![1, 2, 3] bcast_S16x2048x2048_S1x16x2048x2048_1_2_3 main_v3
  let main_cst : FVec F S_ .f32 := constant S_ .f32 0x41000000#32
  let main_v5 : FVec F S1x16x2048x2048 .f32 := broadcastInDim S1x16x2048x2048 ![] bcast_S_S1x16x2048x2048 main_cst
  let main_v6 : FVec F S1x16x2048x2048 .f32 := Host.divf main_v4 main_v5
  let main_values : FVec F S1x16x2048x33 .f32 := (fun x => (Host.topK S1x16x2048x33 3 (FloatOps.cmpfTotal .gt) x sliceFits_S1x16x2048x2048_S1x16x2048x33).1) main_v6
  let main_indices : IVec S1x16x2048x33 32 := (fun x => (Host.topK S1x16x2048x33 3 (FloatOps.cmpfTotal .gt) x sliceFits_S1x16x2048x2048_S1x16x2048x33).2) main_v6
  let main_v7 : FVec F S1x16x2048x32 .f32 := (extractStridedSlice S1x16x2048x32 ![0, 0, 0, 0] · slices_S1x16x2048x33_S1x16x2048x32_0_0_0_0) main_values
  let main_v8 : FVec F S1x16x2048x32 .f32 := (extractStridedSlice S1x16x2048x32 ![0, 0, 0, 1] · slices_S1x16x2048x33_S1x16x2048x32_0_0_0_1) main_values
  let main_v9 : IVec S1x16x2048x32 1 := cmpf .ogt main_v7 main_v8
  main_v9
-- ==== Kernel.lean ====
abbrev S1x16x2048x64 : Shape := ⟨4, ![1, 16, 2048, 64]⟩
abbrev S16x2048x64 : Shape := ⟨3, ![16, 2048, 64]⟩
abbrev S16x2048x2048 : Shape := ⟨3, ![16, 2048, 2048]⟩
abbrev S1x16x2048x2048 : Shape := ⟨4, ![1, 16, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x1 : Shape := ⟨2, ![1024, 1]⟩
abbrev S1024x64 : Shape := ⟨2, ![1024, 64]⟩
abbrev S2048x64 : Shape := ⟨2, ![2048, 64]⟩
abbrev S1024x2048 : Shape := ⟨2, ![1024, 2048]⟩
abbrev S1024x128 : Shape := ⟨2, ![1024, 128]⟩
abbrev S1024 : Shape := ⟨1, ![1024]⟩
abbrev S1x1024x128 : Shape := ⟨3, ![1, 1024, 128]⟩
abbrev S1 : Shape := ⟨1, ![1]⟩
abbrev S1x1x1 : Shape := ⟨3, ![1, 1, 1]⟩

abbrev nBuf : Space → Nat
  | .hbm => 10
  | .vmem => 11
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x2048, .f32⟩
  | .hbm, ⟨7, _⟩ => ⟨S16x2048x64, .f32⟩
  | .hbm, ⟨8, _⟩ => ⟨S1x16x2048x64, .f32⟩
  | .hbm, ⟨9, _⟩ => ⟨S1x16x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x2048, .f32⟩
  | .local _ .vmem, ⟨7, _⟩ => ⟨S1x1024x2048, .f32⟩
  | .local _ .vmem, ⟨8, _⟩ => ⟨S1x1024x64, .f32⟩
  | .local _ .vmem, ⟨9, _⟩ => ⟨S1x1024x64, .f32⟩
  | .local _ .vmem, ⟨10, _⟩ => ⟨S1024x1, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1x16x2048x64 : Shape := ⟨4, ![1, 16, 2048, 64]⟩
abbrev S1x16x64x2048 : Shape := ⟨4, ![1, 16, 64, 2048]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x16x2048x2048 : Shape := ⟨4, ![1, 16, 2048, 2048]⟩
abbrev S_ : Shape := ⟨0, ![]⟩
abbrev S1x16x2048x32 : Shape := ⟨4, ![1, 16, 2048, 32]⟩
abbrev S1 : Shape := ⟨1, ![1]⟩
abbrev S1x1x1x1 : Shape := ⟨4, ![1, 1, 1, 1]⟩
abbrev S16 : Shape := ⟨1, ![16]⟩
abbrev S1x16x1x1 : Shape := ⟨4, ![1, 16, 1, 1]⟩
abbrev S2048 : Shape := ⟨1, ![2048]⟩
abbrev S1x1x2048x1 : Shape := ⟨4, ![1, 1, 2048, 1]⟩
abbrev S1x16x2048x32x1 : Shape := ⟨5, ![1, 16, 2048, 32, 1]⟩
abbrev S1x16x2048x32x4 : Shape := ⟨5, ![1, 16, 2048, 32, 4]⟩
abbrev S1x16x2048 : Shape := ⟨3, ![1, 16, 2048]⟩
abbrev S1x16x2048x1 : Shape := ⟨4, ![1, 16, 2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x64x2048, .f32⟩
  | .hbm, ⟨4, _⟩ => ⟨S16x2048x64, .f32⟩
  | .hbm, ⟨5, _⟩ => ⟨S16x64x2048, .f32⟩
  | .hbm, ⟨6, _⟩ => ⟨S16x2048x2048, .f32⟩
  | .hbm, ⟨7, _⟩ => ⟨S1x16x2048x2048, .f32⟩
  | .hbm, ⟨8, _⟩ => ⟨S_, .f32⟩
  | .hbm, ⟨9, _⟩ => ⟨S1x16x2048x2048, .f32⟩
  | .hbm, ⟨10, _⟩ => ⟨S1x16x2048x2048, .f32⟩
  | .hbm, ⟨11, _⟩ => ⟨S1x16x2048x32, .f32⟩
  | .hbm, ⟨12, _⟩ => ⟨S1x16x2048x32, .i32⟩
  | .hbm, ⟨13, _⟩ => ⟨S1, .i32⟩
  | .hbm, ⟨14, _⟩ => ⟨S1x1x1x1, .i32⟩
  | .hbm, ⟨15, _⟩ => ⟨S16, .i32⟩
  | .hbm, ⟨16, _⟩ => ⟨S1x16x1x1, .i32⟩
  | .hbm, ⟨17, _⟩ => ⟨S2048, .i32⟩
  | .hbm, ⟨18, _⟩ => ⟨S1x1x2048x1, .i32⟩
  | .hbm, ⟨19, _⟩ => ⟨S_, .f32⟩
  | .hbm, ⟨20, _⟩ => ⟨S1x16x2048x2048, .f32⟩
  | .hbm, ⟨21, _⟩ => ⟨S_, .i32⟩
  | .hbm, ⟨22, _⟩ => ⟨S1x1x1x1, .i32⟩
  | .hbm, ⟨23, _⟩ => ⟨S1x1x1x1, .i1⟩
  | .hbm, ⟨24, _⟩ => ⟨S_, .i32⟩
  | .hbm, ⟨25, _⟩ => ⟨S1x1x1x1, .i32⟩
  | .hbm, ⟨26, _⟩ => ⟨S1x1x1x1, .i32⟩
  | .hbm, ⟨27, _⟩ => ⟨S1x1x1x1, .i32⟩
  | .hbm, ⟨28, _⟩ => ⟨S_, .i32⟩
  | .hbm, ⟨29, _⟩ => ⟨S1x16x1x1, .i32⟩
  | .hbm, ⟨30, _⟩ => ⟨S1x16x1x1, .i1⟩
  | .hbm, ⟨31, _⟩ => ⟨S_, .i32⟩
  | .hbm, ⟨32, _⟩ => ⟨S1x16x1x1, .i32⟩
  | .hbm, ⟨33, _⟩ => ⟨S1x16x1x1, .i32⟩
  | .hbm, ⟨34, _⟩ => ⟨S1x16x1x1, .i32⟩
  | .hbm, ⟨35, _⟩ => ⟨S_, .i32⟩
  | .hbm, ⟨36, _⟩ => ⟨S1x1x2048x1, .i32⟩
  | .hbm, ⟨37, _⟩ => ⟨S1x1x2048x1, .i1⟩
  | .hbm, ⟨38, _⟩ => ⟨S_, .i32⟩
  | .hbm, ⟨39, _⟩ => ⟨S1x1x2048x1, .i32⟩
  | .hbm, ⟨40, _⟩ => ⟨S1x1x2048x1, .i32⟩
  | .hbm, ⟨41, _⟩ => ⟨S1x1x2048x1, .i32⟩
  | .hbm, ⟨42, _⟩ => ⟨S_, .i32⟩
  | .hbm, ⟨43, _⟩ => ⟨S1x16x2048x32, .i32⟩
  | .hbm, ⟨44, _⟩ => ⟨S1x16x2048x32, .i1⟩
  | .hbm, ⟨45, _⟩ => ⟨S_, .i32⟩
  | .hbm, ⟨46, _⟩ => ⟨S1x16x2048x32, .i32⟩
  | .hbm, ⟨47, _⟩ => ⟨S1x16x2048x32, .i32⟩
  | .hbm, ⟨48, _⟩ => ⟨S1x16x2048x32, .i32⟩
  | .hbm, ⟨49, _⟩ => ⟨S1x16x2048x32, .i32⟩
  | .hbm, ⟨50, _⟩ => ⟨S1x16x2048x32, .i32⟩
  | .hbm, ⟨51, _⟩ => ⟨S1x16x2048x32, .i32⟩
  | .hbm, ⟨52, _⟩ => ⟨S1x16x2048x32x1, .i32⟩
  | .hbm, ⟨53, _⟩ => ⟨S1x16x2048x32x1, .i32⟩
  | .hbm, ⟨54, _⟩ => ⟨S1x16x2048x32x1, .i32⟩
  | .hbm, ⟨55, _⟩ => ⟨S1x16x2048x32x1, .i32⟩
  | .hbm, ⟨56, _⟩ => ⟨S1x16x2048x32x4, .i32⟩
  | .hbm, ⟨57, _⟩ => ⟨S1x16x2048x2048, .f32⟩
  | .hbm, ⟨58, _⟩ => ⟨S1x16x2048x2048, .f32⟩
  | .hbm, ⟨59, _⟩ => ⟨S_, .f32⟩
  | .hbm, ⟨60, _⟩ => ⟨S1x16x2048, .f32⟩
  | .hbm, ⟨61, _⟩ => ⟨S1x16x2048x1, .f32⟩
  | .hbm, ⟨62, _⟩ => ⟨S_, .f32⟩
  | .hbm, ⟨63, _⟩ => ⟨S1x16x2048x1, .f32⟩
  | .hbm, ⟨64, _⟩ => ⟨S1x16x2048x1, .f32⟩
  | .hbm, ⟨65, _⟩ => ⟨S1x16x2048x2048, .f32⟩
  | .hbm, ⟨66, _⟩ => ⟨S1x16x2048x2048, .f32⟩
  | .hbm, ⟨67, _⟩ => ⟨S16x2048x2048, .f32⟩
  | .hbm, ⟨68, _⟩ => ⟨S16x2048x64, .f32⟩
  | .hbm, ⟨69, _⟩ => ⟨S16x2048x64, .f32⟩
  | .hbm, ⟨70, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_values : Ref sig .tc := ⟨.hbm, 11, rfl⟩
abbrev main_indices : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Proof.Model.lean ====
/-
  What the kernel's body computes, written once, for any float values: the scores of a block, the column network that
  orders each lane's sixteen scores, the extraction that peels off the greatest score of every row thirty-one times, and
  the attention weights that follow from the threshold. Every definition is over the operations that the body itself
  applies, so that the body is these functions by computation (`Body.lean`).
-/
module

public import proofs.«01_k».proof.Proof.Gen.KernelIdeal

@[expose] public section

set_option maxRecDepth 16384

noncomputable section

namespace Cert.Attn

open Idealize.ShloMosaic
open Cert.KernelIdeal Cert.KernelIdeal.Gen

variable {F : FTy → Type} [FloatOps F]

/-- One slab of 128 lanes. -/
abbrev Slab (F : FTy → Type) : Type := FVec F S1024x128 .f32
/-- The depth words of a slab. -/
abbrev Words : Type := IVec S1024x128 32

/-! ### The scores and their slabs -/

/-- The scores of a block of queries against all keys. -/
def scores (q : Vec F S1x1024x64 .f32) (k : Vec F S1x2048x64 .f32) : FVec F S1024x2048 .f32 :=
  matmul dot_S1024x64_S2048x64_S1024x2048_1_1_0_0_n_n none
    (mulf (shapeCast S1024x64 q shapeCasts_S1x1024x64_S1024x64) (broadcast S1024x64 (Scalar.ofBits .f32 0x3E000000#32 : F .f32)))
    (shapeCast S2048x64 k shapeCasts_S1x2048x64_S2048x64) (constant S1024x2048 .f32 0x00000000#32)

theorem slab_slices (d : Fin 16) : S1024x2048.Slices ![0, 128 * d.val] S1024x128 :=
  (by decide : ∀ d : Fin 16, S1024x2048.Slices ![0, 128 * d.val] S1024x128) d

/-- The sixteen slabs of the scores. -/
def slab (x : FVec F S1024x2048 .f32) (d : Fin 16) : Slab F := extractStridedSlice S1024x128 ![0, 128 * d.val] x (slab_slices d)

/-! ### The column network -/

/-- One comparator: the greater value to place `p.1`, the smaller to place `p.2`. -/
def cmpx (s : Fin 16 → Slab F) (p : Fin 16 × Fin 16) : Fin 16 → Slab F := fun i =>
  if i = p.1 then maximumf (s p.1) (s p.2) else if i = p.2 then minimumf (s p.1) (s p.2) else s i

/-- The whole network: every lane's sixteen scores in descending order. -/
def pairsFull : List (Fin 16 × Fin 16) :=
  [(0, 1), (2, 3), (4, 5), (6, 7), (8, 9), (10, 11), (12, 13), (14, 15), (0, 2), (1, 3), (4, 6), (5, 7),
   (8, 10), (9, 11), (12, 14), (13, 15), (1, 2), (5, 6), (9, 10), (13, 14), (0, 4), (1, 5), (2, 6), (3, 7),
   (8, 12), (9, 13), (10, 14), (11, 15), (2, 4), (3, 5), (10, 12), (11, 13), (1, 2), (3, 4), (5, 6), (9, 10),
   (11, 12), (13, 14), (0, 8), (1, 9), (2, 10), (3, 11), (4, 12), (5, 13), (6, 14), (7, 15), (4, 8), (5, 9),
   (6, 10), (7, 11), (2, 4), (3, 5), (6, 8), (7, 9), (10, 12), (11, 13), (1, 2), (3, 4), (5, 6), (7, 8),
   (9, 10), (11, 12), (13, 14)]

/-- The network pruned to what the first seven places need. -/
def pairsTop : List (Fin 16 × Fin 16) :=
  [(0, 1), (2, 3), (4, 5), (6, 7), (8, 9), (10, 11), (12, 13), (14, 15), (0, 2), (1, 3), (4, 6), (5, 7),
   (8, 10), (9, 11), (12, 14), (13, 15), (1, 2), (5, 6), (9, 10), (13, 14), (0, 4), (1, 5), (2, 6), (3, 7),
   (8, 12), (9, 13), (10, 14), (11, 15), (2, 4), (3, 5), (10, 12), (11, 13), (1, 2), (3, 4), (5, 6), (9, 10),
   (11, 12), (13, 14), (0, 8), (1, 9), (2, 10), (3, 11), (4, 12), (5, 13), (6, 14), (4, 8), (5, 9), (6, 10),
   (2, 4), (3, 5), (6, 8), (1, 2), (3, 4), (5, 6)]

/-- The slabs behind a network. -/
def sorted (ps : List (Fin 16 × Fin 16)) (x : FVec F S1024x2048 .f32) : Fin 16 → Slab F := ps.foldl cmpx (slab x)

/-! ### The extraction -/

/-- The greatest value of each row. -/
def rowMax (h : Slab F) : FVec F S1024x1 .f32 :=
  shapeCast S1024x1 (multiReduction .maximumf [1] S1024 h 0xFF800000#32 reduces_S1024x128_S1024 (.inl rfl) rfl) shapeCasts_S1024_S1024x1

/-- The lanes whose head is the row's greatest value. -/
def adv (h : Slab F) : IVec S1024x128 1 := cmpf .oeq h (broadcastTo S1024x128 (rowMax h) broadcasts_S1024x1_S1024x128)

/-- The depth words, one further in the lanes that advance. -/
def deeper (h : Slab F) (d : Words) : Words := addi d (extui 32 (adv h) natLt_1_32)

/-- The lanes whose depth has the bit `b`. -/
def bit (d : Words) (b : BitVec 32) : IVec S1024x128 1 := cmpi .ne (andi d (broadcast S1024x128 b)) (broadcast S1024x128 0#32)

/-- One level of the choice among slabs: of every two neighbours the second where the bit is set. -/
def pick (b : IVec S1024x128 1) : List (Slab F) → List (Slab F)
  | x :: y :: r => select b y x :: pick b r
  | l => l

/-- The slab that the depth words name in each lane, among those of the list. -/
def fetch (d : Words) (l : List (Slab F)) (z : Slab F) : Slab F :=
  ((([1#32, 2#32, 4#32, 8#32] : List (BitVec 32)).foldl (fun l b => pick (bit d b) l) l).head?).getD z

/-- The slabs in a list. -/
def slabList (s : Fin 16 → Slab F) : List (Slab F) :=
  [s 0, s 1, s 2, s 3, s 4, s 5, s 6, s 7, s 8, s 9, s 10, s 11, s 12, s 13, s 14, s 15]

/-- The next head of each lane when seven places are kept. -/
def nextTop (s : Fin 16 → Slab F) (k : ℕ) (d : Words) : Slab F := fetch d ((slabList s).take (min (k + 2) 7)) (s 0)

/-- The next head of each lane when all sixteen places are kept: past the last one a lane is empty. -/
def nextFull (s : Fin 16 → Slab F) (k : ℕ) (d : Words) : Slab F :=
  if 15 ≤ k then
    select (cmpi .sge d (broadcast S1024x128 16#32)) (broadcast S1024x128 (Scalar.ofBits .f32 0xFF800000#32 : F .f32))
      (fetch d ((slabList s).take (min (k + 2) 16)) (s 0))
  else fetch d ((slabList s).take (min (k + 2) 16)) (s 0)

/-- One extraction: the lanes that hold the row's greatest value move one place deeper. -/
def step (next : ℕ → Words → Slab F) (k : ℕ) (st : Slab F × Words) : Slab F × Words :=
  (select (adv st.1) (next k (deeper st.1 st.2)) st.1, deeper st.1 st.2)

/-- The heads and depths after `k` extractions. -/
def extract (next : ℕ → Words → Slab F) (h : Slab F) (k : ℕ) : Slab F × Words :=
  Nat.rec (h, broadcast S1024x128 0#32) (fun j st => step next j st) k

/-- The state of the short extraction after `k` steps, -/
def topState (x : FVec F S1024x2048 .f32) (k : ℕ) : Slab F × Words :=
  extract (nextTop (sorted pairsTop x)) (sorted pairsTop x 0) k

/-- and of the full one. -/
def fullState (x : FVec F S1024x2048 .f32) (k : ℕ) : Slab F × Words :=
  extract (nextFull (sorted pairsFull x)) (sorted pairsFull x 0) k

/-- A threshold as it is stored. -/
def thr (h : Slab F) : FVec F S1024x1 .f32 := shapeCast S1024x1 (rowMax h) shapeCasts_S1024x1_S1024x1

/-- Whether some lane of the short extraction went past the seventh place. -/
def over (d : Words) : BitVec 1 :=
  Scalar.cmpi .ne (Scalar.extui (Scalar.cmpi .sgt
    (extractAt ![0, 0, 0] (shapeCast S1x1x1 (multiReductionI .maxsi [1, 2] S1
      (shapeCast S1x1024x128 d shapeCasts_S1024x128_S1x1024x128) 2147483648#32 reduces_S1x1024x128_S1 rfl)
      shapeCasts_S1_S1x1x1) inpos_S1x1x1_p0_0_0) 6#32) : BitVec 32) 0#32

/-- The threshold of each row. -/
def thresh (x : FVec F S1024x2048 .f32) : FVec F S1024x1 .f32 :=
  if over (topState x 31).2 = 1#1 then thr (fullState x 31).1 else thr (topState x 31).1

/-! ### The attention weights -/

/-- The weights of a block, from its scores and thresholds. -/
def weights (x : FVec F S1024x2048 .f32) (t : Vec F S1024x1 .f32) : FVec F S1024x2048 .f32 :=
  have e : FVec F S1024x2048 .f32 :=
    select (cmpf .oge x (broadcastTo S1024x2048 t broadcasts_S1024x1_S1024x2048)) (exp x)
      (broadcast S1024x2048 (Scalar.ofBits .f32 0x3F800000#32 : F .f32))
  divf e (broadcastTo S1024x2048
    (addf (shapeCast S1024x1 (multiReduction .add [1] S1024 e 0x00000000#32 reduces_S1024x2048_S1024 (.inl rfl) rfl) shapeCasts_S1024_S1024x1)
      (broadcast S1024x1 (Scalar.ofBits .f32 0x322BCC77#32 : F .f32))) broadcasts_S1024x1_S1024x2048)

/-- The weighted sum of the values. -/
def weighted (w : FVec F S1024x2048 .f32) (v : FVec F S2048x64 .f32) : FVec F S1024x64 .f32 :=
  matmul dot_S1024x2048_S2048x64_S1024x64_1_0_0_1_n_n none w v (constant S1024x64 .f32 0x00000000#32)

/-- What the body leaves in the block of weights, -/
def outAttn (q : Vec F S1x1024x64 .f32) (k : Vec F S1x2048x64 .f32) : FVec F S1x1024x2048 .f32 :=
  shapeCast S1x1024x2048 (weights (scores q k) (thresh (scores q k))) shapeCasts_S1024x2048_S1x1024x2048

/-- and in the block of weighted sums. -/
def outCtx (q : Vec F S1x1024x64 .f32) (k v : Vec F S1x2048x64 .f32) : FVec F S1x1024x64 .f32 :=
  shapeCast S1x1024x64 (weighted (weights (scores q k) (thresh (scores q k))) (shapeCast S2048x64 v shapeCasts_S1x2048x64_S2048x64)) shapeCasts_S1024x64_S1x1024x64

end Cert.Attn

end
-- ==== Proof.Equation.lean ====
/-
  The idealized kernel's body, read as the short program it is: three loads, the threshold stored (twice if a lane went
  too deep), then the weights and the weighted sums.
-/
module

public import proofs.«01_k».proof.Proof.Gen.KernelIdeal.Skeleton
public import proofs.«01_k».proof.Proof.Model
public import Idealize.ShloMosaic.Lib.Tactic

@[expose] public section

set_option maxRecDepth 16384

noncomputable section

namespace Cert.KernelIdeal.Short

open Idealize.ShloMosaic Idealize.SL.Sem
open Cert.KernelIdeal Cert.KernelIdeal.Gen

variable {F : FTy → Type} [FloatOps F]

/-! The short program over any functions for its values: nothing about them is used when it runs. -/

section
variable (S : Vec F S1x1024x64 .f32 → Vec F S1x2048x64 .f32 → FVec F S1024x2048 .f32) (T₀ T₁ : FVec F S1024x2048 .f32 → FVec F S1024x1 .f32)
  (O : FVec F S1024x2048 .f32 → BitVec 1) (W : FVec F S1024x2048 .f32 → Vec F S1024x1 .f32 → FVec F S1024x2048 .f32)
  (C : FVec F S1024x2048 .f32 → FVec F S2048x64 .f32 → FVec F S1024x64 .f32)

/-- The second threshold, stored when a lane went too deep. -/
def again (arg7 : Memref sig .tc .vmem S1024x1 .f32) (x : FVec F S1024x2048 .f32) : Prog (TpuEff nD τ sig (Elt F) Λ₀ .tc) PUnit := do
  let _ : Vec F S1024x1 .f32 ← Prog.lift (.load arg7 (Rect.unit (s := S1024x1) ![0, 0] S1024x1.size inb_S1024x1_S1024x1_0_0).toLoadRect (View.loadsAt_vmem h_S1024x1))
  Prog.lift (.store arg7 (Rect.unit (s := S1024x1) ![0, 0] S1024x1.size inb_S1024x1_S1024x1_0_0) (T₁ x) Finset.univ (View.stores_vmem_bits_univ h_S1024x1 rfl) (.inl rfl))
  pure ⟨⟩

/-- What follows the short extraction: its threshold is stored, replaced if the word `c` says so, and the weights and
their weighted sums are formed from what is then in place. -/
def rest (arg5 : Memref sig .tc .vmem S1x1024x2048 .f32) (arg7 : Memref sig .tc .vmem S1024x1 .f32)
    (v : FVec F S2048x64 .f32) (x : FVec F S1024x2048 .f32) (t₀ : FVec F S1024x1 .f32) (c : BitVec 1) : Prog (TpuEff nD τ sig (Elt F) Λ₀ .tc) (FVec F S1024x64 .f32) := do
  let _ : Vec F S1024x1 .f32 ← Prog.lift (.load arg7 (Rect.unit (s := S1024x1) ![0, 0] S1024x1.size inb_S1024x1_S1024x1_0_0).toLoadRect (View.loadsAt_vmem h_S1024x1))
  Prog.lift (.store arg7 (Rect.unit (s := S1024x1) ![0, 0] S1024x1.size inb_S1024x1_S1024x1_0_0) (t₀) Finset.univ (View.stores_vmem_bits_univ h_S1024x1 rfl) (.inl rfl))
  if c = 1#1 then do
    again T₁ arg7 x
    pure ⟨⟩
  else do
    pure ⟨⟩
  let t : Vec F S1024x1 .f32 ← Prog.lift (.load arg7 (Rect.unit (s := S1024x1) ![0, 0] S1024x1.size inb_S1024x1_S1024x1_0_0).toLoadRect (View.loadsAt_vmem h_S1024x1))
  let _ : Vec F S1x1024x2048 .f32 ← Prog.lift (.load arg5 (Rect.unit (s := S1x1024x2048) ![0, 0, 0] S1x1024x2048.size inb_S1x1024x2048_S1x1024x2048_0_0_0).toLoadRect (View.loadsAt_vmem h_S1x1024x2048))
  Prog.lift (.store arg5 (Rect.unit (s := S1x1024x2048) ![0, 0, 0] S1x1024x2048.size inb_S1x1024x2048_S1x1024x2048_0_0_0) (shapeCast S1x1024x2048 (W x t) shapeCasts_S1024x2048_S1x1024x2048) Finset.univ (View.stores_vmem_bits_univ h_S1x1024x2048 rfl) (.inl rfl))
  pure (C (W x t) v)

/-- The last store. -/
def finish (arg6 : Memref sig .tc .vmem S1x1024x64 .f32) (w : FVec F S1024x64 .f32) : Prog (TpuEff nD τ sig (Elt F) Λ₀ .tc) PUnit := do
  let _ : Vec F S1x1024x64 .f32 ← Prog.lift (.load arg6 (Rect.unit (s := S1x1024x64) ![0, 0, 0] S1x1024x64.size inb_S1x1024x64_S1x1024x64_0_0_0).toLoadRect (View.loadsAt_vmem h_S1x1024x64))
  Prog.lift (.store arg6 (Rect.unit (s := S1x1024x64) ![0, 0, 0] S1x1024x64.size inb_S1x1024x64_S1x1024x64_0_0_0) (shapeCast S1x1024x64 w shapeCasts_S1024x64_S1x1024x64) Finset.univ (View.stores_vmem_bits_univ h_S1x1024x64 rfl) (.inl rfl))
  pure ⟨⟩

/-- The loads, and what follows them. -/
def start (arg2 : Memref sig .tc .vmem S1x1024x64 .f32) (arg3 arg4 : Memref sig .tc .vmem S1x2048x64 .f32)
    (K : FVec F S2048x64 .f32 → FVec F S1024x2048 .f32 → FVec F S1024x1 .f32 → BitVec 1 → Prog (TpuEff nD τ sig (Elt F) Λ₀ .tc) PUnit) : Prog (TpuEff nD τ sig (Elt F) Λ₀ .tc) PUnit := do
  let q : Vec F S1x1024x64 .f32 ← Prog.lift (.load arg2 (Rect.unit (s := S1x1024x64) ![0, 0, 0] S1x1024x64.size inb_S1x1024x64_S1x1024x64_0_0_0).toLoadRect (View.loadsAt_vmem h_S1x1024x64))
  let k : Vec F S1x2048x64 .f32 ← Prog.lift (.load arg3 (Rect.unit (s := S1x2048x64) ![0, 0, 0] S1x2048x64.size inb_S1x2048x64_S1x2048x64_0_0_0).toLoadRect (View.loadsAt_vmem h_S1x2048x64))
  let v : Vec F S1x2048x64 .f32 ← Prog.lift (.load arg4 (Rect.unit (s := S1x2048x64) ![0, 0, 0] S1x2048x64.size inb_S1x2048x64_S1x2048x64_0_0_0).toLoadRect (View.loadsAt_vmem h_S1x2048x64))
  K (shapeCast S2048x64 v shapeCasts_S1x2048x64_S2048x64) (S q k) (T₀ (S q k)) (O (S q k))

/-- The body as a short program. -/
def prog (arg2 : Memref sig .tc .vmem S1x1024x64 .f32) (arg3 arg4 : Memref sig .tc .vmem S1x2048x64 .f32)
    (arg5 : Memref sig .tc .vmem S1x1024x2048 .f32) (arg6 : Memref sig .tc .vmem S1x1024x64 .f32)
    (arg7 : Memref sig .tc .vmem S1024x1 .f32) : Prog (TpuEff nD τ sig (Elt F) Λ₀ .tc) PUnit :=
  start S T₀ O arg2 arg3 arg4 fun v x t₀ c => do
    let w ← rest T₁ W C arg5 arg7 v x t₀ c
    finish arg6 w

end

/-- The thresholds and the test, of the scores. -/
def first (x : FVec F S1024x2048 .f32) : FVec F S1024x1 .f32 := Attn.thr (Attn.topState x 31).1
def second (x : FVec F S1024x2048 .f32) : FVec F S1024x1 .f32 := Attn.thr (Attn.fullState x 31).1
def deep (x : FVec F S1024x2048 .f32) : BitVec 1 := Attn.over (Attn.topState x 31).2

section
variable (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x2048 .f32) (harg5 : arg5.IsWhole) (arg6 : Memref sig .tc .vmem S1x1024x64 .f32) (harg6 : arg6.IsWhole) (arg7 : Memref sig .tc .vmem S1024x1 .f32) (harg7 : arg7.IsWhole)

/-- The second extraction is `again`: by computation. -/
theorem again_eq (x : FVec F S1024x2048 .f32) : k0_part26_skel i arg2 harg2 arg3 harg3 arg4 harg4 arg5 harg5 arg6 harg6 arg7 harg7 x = again second arg7 x := by
  sl_kernel_rfl

/-- The test of the depths. -/
theorem over_eq (d : Attn.Words) : Scalar.cmpi .ne (Scalar.extui (Scalar.cmpi .sgt (extractAt ![0, 0, 0] (k0_pay564 d) inpos_S1x1x1_p0_0_0) 6#32) : BitVec 32) 0#32 = Attn.over d := by
  sl_kernel_rfl

/-- What follows the short extraction is `rest`. -/
theorem rest_eq (v7 : FVec F S2048x64 .f32) (v8 : FVec F S1024x2048 .f32) (v123 v843 : Attn.Slab F) (v847 : IVec S1024x128 1) (v849 : Attn.Words)
    (v854 v855 v856 : Attn.Slab F) (v858 : Attn.Words) (c0 : BitVec 32) :
    k0_part45_skel i arg2 harg2 arg3 harg3 arg4 harg4 arg5 harg5 arg6 harg6 arg7 harg7 v7 v8 v123 v843 v847 v849 v854 v855 v856 v858 c0
      = rest second Attn.weights Attn.weighted arg5 arg7 v7 v8 (k0_pay565 v123 v843 v847 v849 v854 v855 v856 v858 c0) (Attn.over v849) := by
  dsimp only [k0_part45_skel]
  simp only [k0_part26_eq_skeleton, again_eq, over_eq]
  generalize Attn.over v849 = c
  generalize k0_pay565 v123 v843 v847 v849 v854 v855 v856 v858 c0 = t₀
  sl_kernel_rfl

/-- The loads, the network and the short extraction: by computation, whatever follows. -/
theorem start_eq (K : FVec F S2048x64 .f32 → FVec F S1024x2048 .f32 → FVec F S1024x1 .f32 → BitVec 1 → Prog (TpuEff nD τ sig (Elt F) Λ₀ .tc) PUnit) :
    (do
    let ⟨v7, v8, v30, v32, v33, v34, v35, v36, v37, v38, v39, v40, v41, v42, v43, v44, v45, v46⟩ : Σ' (v7 : FVec F S2048x64 .f32) (v8 : FVec F S1024x2048 .f32) (v30 : FVec F S1024x128 .f32) (v32 : FVec F S1024x128 .f32) (v33 : FVec F S1024x128 .f32) (v34 : FVec F S1024x128 .f32) (v35 : FVec F S1024x128 .f32) (v36 : FVec F S1024x128 .f32) (v37 : FVec F S1024x128 .f32) (v38 : FVec F S1024x128 .f32) (v39 : FVec F S1024x128 .f32) (v40 : FVec F S1024x128 .f32) (v41 : FVec F S1024x128 .f32) (v42 : FVec F S1024x128 .f32) (v43 : FVec F S1024x128 .f32) (v44 : FVec F S1024x128 .f32) (v45 : FVec F S1024x128 .f32), FVec F S1024x128 .f32 ← k0_part27 i arg2 harg2 arg3 harg3 arg4 harg4 arg5 harg5 arg6 harg6 arg7 harg7
    let ⟨v91, v92, v97, v98, v99, v100, v101, v102, v103, v104, v105, v106⟩ : Σ' (v91 : FVec F S1024x128 .f32) (v92 : FVec F S1024x128 .f32) (v97 : FVec F S1024x128 .f32) (v98 : FVec F S1024x128 .f32) (v99 : FVec F S1024x128 .f32) (v100 : FVec F S1024x128 .f32) (v101 : FVec F S1024x128 .f32) (v102 : FVec F S1024x128 .f32) (v103 : FVec F S1024x128 .f32) (v104 : FVec F S1024x128 .f32) (v105 : FVec F S1024x128 .f32), FVec F S1024x128 .f32 ← k0_part28 i arg2 harg2 arg3 harg3 arg4 harg4 arg5 harg5 arg6 harg6 arg7 harg7 v30 v32 v33 v34 v35 v36 v37 v38 v39 v40 v41 v42 v43 v44 v45 v46
    let ⟨v118, v119, v120, v121, v122, v123, v142, v153, v156⟩ : Σ' (v118 : FVec F S1024x128 .f32) (v119 : FVec F S1024x128 .f32) (v120 : FVec F S1024x128 .f32) (v121 : FVec F S1024x128 .f32) (v122 : FVec F S1024x128 .f32) (v123 : FVec F S1024x128 .f32) (v142 : IVec S1024x128 32) (v153 : FVec F S1024x128 .f32), FVec F S1024x128 .f32 ← k0_part29 i arg2 harg2 arg3 harg3 arg4 harg4 arg5 harg5 arg6 harg6 arg7 harg7 v91 v92 v97 v98 v99 v100 v101 v102 v103 v104 v105 v106
    let ⟨v194, v198, v200, v202, c0_i32_28⟩ : Σ' (v194 : FVec F S1024x128 .f32) (v198 : IVec S1024x128 1) (v200 : IVec S1024x128 32) (v202 : IVec S1024x128 32), BitVec 32 ← k0_part30 i arg2 harg2 arg3 harg3 arg4 harg4 arg5 harg5 arg6 harg6 arg7 harg7 v99 v118 v119 v120 v121 v142 v153 v156
    let ⟨v243, v247, v249, c1_i32_41⟩ : Σ' (v243 : FVec F S1024x128 .f32) (v247 : IVec S1024x128 1) (v249 : IVec S1024x128 32), BitVec 32 ← k0_part31 i arg2 harg2 arg3 harg3 arg4 harg4 arg5 harg5 arg6 harg6 arg7 harg7 v99 v118 v119 v120 v121 v122 v123 v194 v198 v200 v202 c0_i32_28
    let ⟨v274, v293, v296⟩ : Σ' (v274 : IVec S1024x128 32) (v293 : FVec F S1024x128 .f32), FVec F S1024x128 .f32 ← k0_part32 i arg2 harg2 arg3 harg3 arg4 harg4 arg5 harg5 arg6 harg6 arg7 harg7 v99 v118 v119 v120 v121 v122 v123 v243 v247 v249 c1_i32_41
    let ⟨v324, v343⟩ : Σ' (v324 : IVec S1024x128 32), FVec F S1024x128 .f32 ← k0_part33 i arg2 harg2 arg3 harg3 arg4 harg4 arg5 harg5 arg6 harg6 arg7 harg7 v99 v118 v119 v120 v121 v122 v123 v274 v293 v296
    let ⟨v368, v372, v374, v386, v387, v389, c0_i32_81⟩ : Σ' (v368 : FVec F S1024x128 .f32) (v372 : IVec S1024x128 1) (v374 : IVec S1024x128 32) (v386 : FVec F S1024x128 .f32) (v387 : FVec F S1024x128 .f32) (v389 : IVec S1024x128 32), BitVec 32 ← k0_part34 i arg2 harg2 arg3 harg3 arg4 harg4 arg5 harg5 arg6 harg6 arg7 harg7 v99 v118 v119 v120 v121 v122 v123 v324 v343
    let ⟨v418, v422, v424, v436, v437⟩ : Σ' (v418 : FVec F S1024x128 .f32) (v422 : IVec S1024x128 1) (v424 : IVec S1024x128 32) (v436 : FVec F S1024x128 .f32), FVec F S1024x128 .f32 ← k0_part35 i arg2 harg2 arg3 harg3 arg4 harg4 arg5 harg5 arg6 harg6 arg7 harg7 v99 v118 v119 v120 v121 v122 v123 v368 v372 v374 v386 v387 v389 c0_i32_81
    let ⟨v468, v472, v474, v479, v480, v481, v483, c0_i32_107⟩ : Σ' (v468 : FVec F S1024x128 .f32) (v472 : IVec S1024x128 1) (v474 : IVec S1024x128 32) (v479 : FVec F S1024x128 .f32) (v480 : FVec F S1024x128 .f32) (v481 : FVec F S1024x128 .f32) (v483 : IVec S1024x128 32), BitVec 32 ← k0_part36 i arg2 harg2 arg3 harg3 arg4 harg4 arg5 harg5 arg6 harg6 arg7 harg7 v99 v118 v119 v120 v121 v122 v123 v418 v422 v424 v436 v437
    let ⟨v518, v522, v524, v529, v530, v531⟩ : Σ' (v518 : FVec F S1024x128 .f32) (v522 : IVec S1024x128 1) (v524 : IVec S1024x128 32) (v529 : FVec F S1024x128 .f32) (v530 : FVec F S1024x128 .f32), FVec F S1024x128 .f32 ← k0_part37 i arg2 harg2 arg3 harg3 arg4 harg4 arg5 harg5 arg6 harg6 arg7 harg7 v99 v118 v119 v120 v121 v122 v123 v468 v472 v474 v479 v480 v481 v483 c0_i32_107
    let ⟨v568, v572, v574, v576, v577⟩ : Σ' (v568 : FVec F S1024x128 .f32) (v572 : IVec S1024x128 1) (v574 : IVec S1024x128 32) (v576 : IVec S1024x128 32), IVec S1024x128 32 ← k0_part38 i arg2 harg2 arg3 harg3 arg4 harg4 arg5 harg5 arg6 harg6 arg7 harg7 v99 v118 v119 v120 v121 v122 v123 v518 v522 v524 v529 v530 v531
    let ⟨v618, v622, v624, c1_i32_146⟩ : Σ' (v618 : FVec F S1024x128 .f32) (v622 : IVec S1024x128 1) (v624 : IVec S1024x128 32), BitVec 32 ← k0_part39 i arg2 harg2 arg3 harg3 arg4 harg4 arg5 harg5 arg6 harg6 arg7 harg7 v99 v118 v119 v120 v121 v122 v123 v568 v572 v574 v576 v577
    let ⟨v649, v668, v671⟩ : Σ' (v649 : IVec S1024x128 32) (v668 : FVec F S1024x128 .f32), FVec F S1024x128 .f32 ← k0_part40 i arg2 harg2 arg3 harg3 arg4 harg4 arg5 harg5 arg6 harg6 arg7 harg7 v99 v118 v119 v120 v121 v122 v123 v618 v622 v624 c1_i32_146
    let ⟨v699, v718⟩ : Σ' (v699 : IVec S1024x128 32), FVec F S1024x128 .f32 ← k0_part41 i arg2 harg2 arg3 harg3 arg4 harg4 arg5 harg5 arg6 harg6 arg7 harg7 v99 v118 v119 v120 v121 v122 v123 v649 v668 v671
    let ⟨v743, v747, v749, v761, v762, v764, c0_i32_186⟩ : Σ' (v743 : FVec F S1024x128 .f32) (v747 : IVec S1024x128 1) (v749 : IVec S1024x128 32) (v761 : FVec F S1024x128 .f32) (v762 : FVec F S1024x128 .f32) (v764 : IVec S1024x128 32), BitVec 32 ← k0_part42 i arg2 harg2 arg3 harg3 arg4 harg4 arg5 harg5 arg6 harg6 arg7 harg7 v99 v118 v119 v120 v121 v122 v123 v699 v718
    let ⟨v793, v797, v799, v811, v812⟩ : Σ' (v793 : FVec F S1024x128 .f32) (v797 : IVec S1024x128 1) (v799 : IVec S1024x128 32) (v811 : FVec F S1024x128 .f32), FVec F S1024x128 .f32 ← k0_part43 i arg2 harg2 arg3 harg3 arg4 harg4 arg5 harg5 arg6 harg6 arg7 harg7 v99 v118 v119 v120 v121 v122 v123 v743 v747 v749 v761 v762 v764 c0_i32_186
    let ⟨v843, v847, v849, v854, v855, v856, v858, c0_i32_212⟩ : Σ' (v843 : FVec F S1024x128 .f32) (v847 : IVec S1024x128 1) (v849 : IVec S1024x128 32) (v854 : FVec F S1024x128 .f32) (v855 : FVec F S1024x128 .f32) (v856 : FVec F S1024x128 .f32) (v858 : IVec S1024x128 32), BitVec 32 ← k0_part44 i arg2 harg2 arg3 harg3 arg4 harg4 arg5 harg5 arg6 harg6 arg7 harg7 v99 v118 v119 v120 v121 v122 v123 v793 v797 v799 v811 v812
    K v7 v8 (k0_pay565 v123 v843 v847 v849 v854 v855 v856 v858 c0_i32_212) (Attn.over v849)) = start Attn.scores first deep arg2 arg3 arg4 K := by
  sl_kernel_rfl

end

/-- The printed body is the short program. -/
theorem kernel_eq (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x2048 .f32) (harg5 : arg5.IsWhole) (arg6 : Memref sig .tc .vmem S1x1024x64 .f32) (harg6 : arg6.IsWhole) (arg7 : Memref sig .tc .vmem S1024x1 .f32) (harg7 : arg7.IsWhole) :
    cc0__attn_kernel_skel (F := F) i arg2 harg2 arg3 harg3 arg4 harg4 arg5 harg5 arg6 harg6 arg7 harg7 = prog Attn.scores first second deep Attn.weights Attn.weighted arg2 arg3 arg4 arg5 arg6 arg7 := by
  unfold cc0__attn_kernel_skel prog
  simp only [k0_part45_eq_skeleton, rest_eq]
  exact start_eq i arg2 harg2 arg3 harg3 arg4 harg4 arg5 harg5 arg6 harg6 arg7 harg7
    (fun v x t₀ c => do let w ← rest second Attn.weights Attn.weighted arg5 arg7 v x t₀ c; finish arg6 w)

end Cert.KernelIdeal.Short

end
-- ==== Proof.Body.lean ====
/-
  The idealized kernel's body on any whole staging buffers: it leaves the inputs as they are, and the block of weights
  and the block of weighted sums at the model's values (`Model.lean`) of the three inputs.
-/
module

public import proofs.«01_k».proof.Proof.Equation
public import proofs.«01_k».proof.Proof.Gen.KernelIdeal.Frame
public import Idealize.ShloMosaic.Lib.VecWindow

@[expose] public section

set_option maxRecDepth 16384

noncomputable section

namespace Cert.KernelIdeal.Short

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

section
variable (S : Vec F S1x1024x64 .f32 → Vec F S1x2048x64 .f32 → FVec F S1024x2048 .f32) (T₀ T₁ : FVec F S1024x2048 .f32 → FVec F S1024x1 .f32)
  (O : FVec F S1024x2048 .f32 → BitVec 1) (W : FVec F S1024x2048 .f32 → Vec F S1024x1 .f32 → FVec F S1024x2048 .f32)
  (C : FVec F S1024x2048 .f32 → FVec F S2048x64 .f32 → FVec F S1024x64 .f32)

/-- The threshold in place when the weights are formed. -/
def placed (x : FVec F S1024x2048 .f32) : FVec F S1024x1 .f32 := if O x = 1#1 then T₁ x else T₀ x

/-- The short program's triple. -/
theorem prog_run (c : Dev nD) (arg2 : Memref sig .tc .vmem S1x1024x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x1024x2048 .f32) (harg5 : arg5.IsWhole) (arg6 : Memref sig .tc .vmem S1x1024x64 .f32) (harg6 : arg6.IsWhole)
    (arg7 : Memref sig .tc .vmem S1024x1 .f32) (harg7 : arg7.IsWhole)
    (x0 : Vec F S1x1024x64 .f32) (x1 x2 : Vec F S1x2048x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (shapeCast S1x1024x2048 (W (S x0 x1) (placed T₀ T₁ O (S x0 x1))) shapeCasts_S1024x2048_S1x1024x2048)
            ∗ owns (c : Thread nD τ) arg6 fullShare (shapeCast S1x1024x64 (C (W (S x0 x1) (placed T₀ T₁ O (S x0 x1)))
                (shapeCast S2048x64 x2 shapeCasts_S1x2048x64_S2048x64)) shapeCasts_S1024x64_S1x1024x64)
            ∗ (∃ d, owns (c : Thread nD τ) arg7 fullShare d)) -∗ K ⟨⟩))
      ⊢ wp frame (wpE (defs₀ (F := F)) Variants.none c none) E (prog S T₀ T₁ O W C arg2 arg3 arg4 arg5 arg6 arg7) K := by
  unfold prog start rest finish again
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg2.eq_unread hf0; obtain rfl := harg3.eq_unread hf1; obtain rfl := harg4.eq_unread hf2
  sl_exec
  sl_exec
  sl_step
  have e0 : arg2.view.readAt (Elt F) (Rect.unit (s := S1x1024x64) ![0, 0, 0] S1x1024x64.size inb_S1x1024x64_S1x1024x64_0_0_0).toLoadRect
      (harg2.unread x0) = x0 := (View.readAt_full _ _ _).trans hf0
  have e1 : arg3.view.readAt (Elt F) (Rect.unit (s := S1x2048x64) ![0, 0, 0] S1x2048x64.size inb_S1x2048x64_S1x2048x64_0_0_0).toLoadRect
      (harg3.unread x1) = x1 := (View.readAt_full _ _ _).trans hf1
  have e2 : arg4.view.readAt (Elt F) (Rect.unit (s := S1x2048x64) ![0, 0, 0] S1x2048x64.size inb_S1x2048x64_S1x2048x64_0_0_0).toLoadRect
      (harg4.unread x2) = x2 := (View.readAt_full _ _ _).trans hf2
  have ht : prog_run.sl.t S T₀ T₁ O c arg2 harg2 arg3 harg3 arg7 x0 x1 fs0 = placed T₀ T₁ O (S x0 x1) := by
    unfold prog_run.sl.t prog_run.sl.HS0_1 placed
    rw [e0, e1, View.readAt_full]
    by_cases hc : O (S x0 x1) = 1#1
    · rw [dif_pos hc, if_pos hc, View.read_writes_full]
    · rw [dif_neg hc, if_neg hc, View.read_writes_full]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro; rw [View.read_writes_full, ht, e0, e1]
  isplitl [H4]
  · iexists _; isplitr
    swap; · iexact H4
    ipureintro; rw [View.read_writes_full]; unfold prog_run.sl.r; rw [ht, e0, e1, e2]
  iexists _, _; isplitr
  swap; · iexact HS0
  ipureintro; rfl

end

/-- The body leaves the values `oA` and `oC` of its inputs in its two output buffers. -/
def Leaves (oA : Vec F S1x1024x64 .f32 → Vec F S1x2048x64 .f32 → FVec F S1x1024x2048 .f32)
    (oC : Vec F S1x1024x64 .f32 → Vec F S1x2048x64 .f32 → Vec F S1x2048x64 .f32 → FVec F S1x1024x64 .f32) : Prop :=
  ∀ (c : Dev nD) (i : grid0.Coords) (arg2 : Memref sig .tc .vmem S1x1024x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x1024x2048 .f32) (harg5 : arg5.IsWhole) (arg6 : Memref sig .tc .vmem S1x1024x64 .f32) (harg6 : arg6.IsWhole)
    (arg7 : Memref sig .tc .vmem S1024x1 .f32) (harg7 : arg7.IsWhole)
    (x0 : Vec F S1x1024x64 .f32) (x1 x2 : Vec F S1x2048x64 .f32) (E : Set ℕ) (K : PUnit → sProp 𝕄),
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (oA x0 x1) ∗ owns (c : Thread nD τ) arg6 fullShare (oC x0 x1 x2)
            ∗ (∃ d, owns (c : Thread nD τ) arg7 fullShare d)) -∗ K ⟨⟩))
      ⊢ wp frame (wpE (defs₀ (F := F)) Variants.none c none) E
          (cc0__attn_kernel i arg2 harg2 arg3 harg3 arg4 harg4 arg5 harg5 arg6 harg6 arg7 harg7) K

/-- It leaves the model's. -/
theorem body_run : Leaves (F := F) Attn.outAttn Attn.outCtx := by
  intro c i arg2 harg2 arg3 harg3 arg4 harg4 arg5 harg5 arg6 harg6 arg7 harg7 x0 x1 x2 E K
  rw [cc0__attn_kernel_eq_skeleton, kernel_eq]
  exact prog_run Attn.scores first second deep Attn.weights Attn.weighted c arg2 harg2 arg3 harg3 arg4 harg4 arg5 harg5 arg6 harg6 arg7 harg7
    x0 x1 x2 E K

end Cert.KernelIdeal.Short

end
-- ==== Proof.Run.lean ====
/-
  The idealized kernel's launch: at every grid point the body finds its three input blocks and leaves the model's weights
  and weighted sums, so the run ends with every output block at the model's value and the arguments as they were.
-/
module

public import proofs.«01_k».proof.Proof.Body
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Claim

@[expose] public section

set_option maxRecDepth 16384

noncomputable section

namespace Cert.KernelIdeal.Short

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (oA : Vec F S1x1024x64 .f32 → Vec F S1x2048x64 .f32 → FVec F S1x1024x2048 .f32)
  (oC : Vec F S1x1024x64 .f32 → Vec F S1x2048x64 .f32 → Vec F S1x2048x64 .f32 → FVec F S1x1024x64 .f32)
variable (m : (ℓ : Loc nD τ sig) → Buf (Elt F) ℓ) (ρ : Dev nD → PrngReg)

/-- The threshold buffer, whole. -/
abbrev cell : Memref sig .tc .vmem S1024x1 .f32 := Memref.whole cc0_scratch0

/-- Between points the core holds the threshold buffer at some contents, and its generator register. -/
theorem carried_eq (c : Dev nD) :
    (Pipeline.ΦA spec0 c : sProp 𝕄) = iprop(iprop(∃ d, owns (c : Thread nD τ) cell fullShare d) ∗ (∃ r, prngReg c r)) := by
  unfold Pipeline.ΦA; rw [scopedRest0_eq]; simp only [cell, owns_whole]; try rfl

/-- Each window's staging buffer at point `t`. -/
abbrev stg0 (t : Fin cfg0.N) : Memref sig .tc .vmem S1x1024x64 .f32 := win0_0.stage (cfg0.slots t 0)
abbrev stg1 (t : Fin cfg0.N) : Memref sig .tc .vmem S1x2048x64 .f32 := win0_1.stage (cfg0.slots t 1)
abbrev stg2 (t : Fin cfg0.N) : Memref sig .tc .vmem S1x2048x64 .f32 := win0_2.stage (cfg0.slots t 2)
abbrev stg3 (t : Fin cfg0.N) : Memref sig .tc .vmem S1x1024x2048 .f32 := win0_3.stage (cfg0.slots t 3)
abbrev stg4 (t : Fin cfg0.N) : Memref sig .tc .vmem S1x1024x64 .f32 := win0_4.stage (cfg0.slots t 4)

/-- The proof data: inputs stay at their blocks, outputs end at the values `oA` and `oC` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oA (iblk m c 0 t) (iblk m c 1 t)
    | ⟨4, _⟩ => oC (iblk m c 0 t) (iblk m c 1 t) (iblk m c 2 t)
  Φ _ := Pipeline.ΦA spec0 c
  q _ := fullShare
  owed _ := 0

theorem arrays_eq (c : Dev nD) (w : Fin cfg0.W) : (dats oA oC m 0 c).A w = V m c (Pipeline.arrRef spec0 w) := by dsimp only [dats]

theorem after_q (c : Dev nD) (t : Fin cfg0.N) : (dats oA oC m 0 c).after 0 t = iblk m c 0 t := by dsimp only [dats]
theorem after_k (c : Dev nD) (t : Fin cfg0.N) : (dats oA oC m 0 c).after 1 t = iblk m c 1 t := by dsimp only [dats]
theorem after_v (c : Dev nD) (t : Fin cfg0.N) : (dats oA oC m 0 c).after 2 t = iblk m c 2 t := by dsimp only [dats]
theorem after_attn (c : Dev nD) (t : Fin cfg0.N) : (dats oA oC m 0 c).after 3 t = oA (iblk m c 0 t) (iblk m c 1 t) := by dsimp only [dats]
theorem after_ctx (c : Dev nD) (t : Fin cfg0.N) :
    (dats oA oC m 0 c).after 4 t = oC (iblk m c 0 t) (iblk m c 1 t) (iblk m c 2 t) := by dsimp only [dats]

theorem before_q (c : Dev nD) (t : Fin cfg0.N) (d) : (dats oA oC m 0 c).before 0 t d = iblk m c 0 t :=
  before0_0_of m (dats oA oC m 0 c) (arrays_eq oA oC m c 0) (after_q oA oC m c) t d
theorem before_k (c : Dev nD) (t : Fin cfg0.N) (d) : (dats oA oC m 0 c).before 1 t d = iblk m c 1 t :=
  before0_1_of m (dats oA oC m 0 c) (arrays_eq oA oC m c 1) (after_k oA oC m c) t d
theorem before_v (c : Dev nD) (t : Fin cfg0.N) (d) : (dats oA oC m 0 c).before 2 t d = iblk m c 2 t :=
  before0_2_of m (dats oA oC m 0 c) (arrays_eq oA oC m c 2) (after_v oA oC m c) t d

/-- A program that meets the body's triple at point `t` takes what the pipeline hands it to what the pipeline expects back. -/
theorem point_core (c : Dev nD) (t : Fin cfg0.N) (P : Prog (TpuEff nD τ sig (Elt F) Λ₀ .tc) PUnit)
    (hP : ∀ (E : Set ℕ) (K : PUnit → sProp 𝕄),
    iprop(owns (c : Thread nD τ) (stg0 t) fullShare (iblk m c 0 t) ∗ owns (c : Thread nD τ) (stg1 t) fullShare (iblk m c 1 t) ∗ owns (c : Thread nD τ) (stg2 t) fullShare (iblk m c 2 t)
        ∗ (∃ d, owns (c : Thread nD τ) (stg3 t) fullShare d) ∗ (∃ d, owns (c : Thread nD τ) (stg4 t) fullShare d) ∗ (∃ d, owns (c : Thread nD τ) cell fullShare d)
        ∗ (iprop(owns (c : Thread nD τ) (stg0 t) fullShare (iblk m c 0 t) ∗ owns (c : Thread nD τ) (stg1 t) fullShare (iblk m c 1 t) ∗ owns (c : Thread nD τ) (stg2 t) fullShare (iblk m c 2 t)
            ∗ owns (c : Thread nD τ) (stg3 t) fullShare (oA (iblk m c 0 t) (iblk m c 1 t)) ∗ owns (c : Thread nD τ) (stg4 t) fullShare (oC (iblk m c 0 t) (iblk m c 1 t) (iblk m c 2 t))
            ∗ (∃ d, owns (c : Thread nD τ) cell fullShare d)) -∗ K ⟨⟩))
      ⊢ wp frame (wpE (defs₀ (F := F)) Variants.none c none) E
          P K) :
    iprop((dats oA oC m 0 c).Φ t.castSucc ∗ (dats oA oC m 0 c).owesAt () t.castSucc
      ∗ (∃ d, owns (c : Thread nD τ) (stg0 t) fullShare ((dats oA oC m 0 c).before 0 t d)) ∗ (∃ d, owns (c : Thread nD τ) (stg1 t) fullShare ((dats oA oC m 0 c).before 1 t d))
      ∗ (∃ d, owns (c : Thread nD τ) (stg2 t) fullShare ((dats oA oC m 0 c).before 2 t d)) ∗ (∃ d, owns (c : Thread nD τ) (stg3 t) fullShare ((dats oA oC m 0 c).before 3 t d))
      ∗ (∃ d, owns (c : Thread nD τ) (stg4 t) fullShare ((dats oA oC m 0 c).before 4 t d)))
    ⊢ wp frame (wpE (defs₀ (F := F)) Variants.none c none) Set.univ P (fun _ =>
      iprop((dats oA oC m 0 c).Φ t.succ ∗ (dats oA oC m 0 c).owesAt () t.succ
        ∗ owns (c : Thread nD τ) (stg0 t) fullShare ((dats oA oC m 0 c).after 0 t) ∗ owns (c : Thread nD τ) (stg1 t) fullShare ((dats oA oC m 0 c).after 1 t) ∗ owns (c : Thread nD τ) (stg2 t) fullShare ((dats oA oC m 0 c).after 2 t)
        ∗ owns (c : Thread nD τ) (stg3 t) fullShare ((dats oA oC m 0 c).after 3 t) ∗ owns (c : Thread nD τ) (stg4 t) fullShare ((dats oA oC m 0 c).after 4 t))) := by
  simp only [before_q, before_k, before_v]
  rw [show (dats oA oC m 0 c).Φ t.succ = (dats oA oC m 0 c).Φ t.castSucc from rfl,
    show (dats oA oC m 0 c).owesAt () t.succ = (dats oA oC m 0 c).owesAt () t.castSucc from rfl, after_q, after_k, after_v, after_attn, after_ctx,
    show (dats oA oC m 0 c).Φ t.castSucc = Pipeline.ΦA spec0 c from rfl, carried_eq]
  iintro ⟨⟨HS, Hg⟩, Ho, ⟨%d0, H0⟩, ⟨%d1, H1⟩, ⟨%d2, H2⟩, ⟨%d3, H3⟩, ⟨%d4, H4⟩⟩
  iapply (hP Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

/-- The body at a point, spelled out. -/
theorem body_at (t : Fin cfg0.N) : bodyAt0 (F := F) t = cc0__attn_kernel (grid0.coords t) (stg0 t) (hstage0_0 ((cfg0.slots t 0).cast nbuf0_0)) (stg1 t) (hstage0_1 ((cfg0.slots t 1).cast nbuf0_1)) (stg2 t)
      (hstage0_2 ((cfg0.slots t 2).cast nbuf0_2)) (stg3 t) (hstage0_3 ((cfg0.slots t 3).cast nbuf0_3)) (stg4 t) (hstage0_4 ((cfg0.slots t 4).cast nbuf0_4))
      cell (Memref.isWhole_whole _) := rfl

/-- At point `t` the body takes what the pipeline hands it to what the pipeline expects back. -/
theorem point_run (hb : Leaves oA oC) (c : Dev nD) (t : Fin cfg0.N) :
    iprop((dats oA oC m 0 c).Φ t.castSucc ∗ (dats oA oC m 0 c).owesAt () t.castSucc
      ∗ (∃ d, owns (c : Thread nD τ) (stg0 t) fullShare ((dats oA oC m 0 c).before 0 t d)) ∗ (∃ d, owns (c : Thread nD τ) (stg1 t) fullShare ((dats oA oC m 0 c).before 1 t d))
      ∗ (∃ d, owns (c : Thread nD τ) (stg2 t) fullShare ((dats oA oC m 0 c).before 2 t d)) ∗ (∃ d, owns (c : Thread nD τ) (stg3 t) fullShare ((dats oA oC m 0 c).before 3 t d))
      ∗ (∃ d, owns (c : Thread nD τ) (stg4 t) fullShare ((dats oA oC m 0 c).before 4 t d)))
    ⊢ wp frame (wpE (defs₀ (F := F)) Variants.none c none) Set.univ (bodyAt0 t) (fun _ =>
      iprop((dats oA oC m 0 c).Φ t.succ ∗ (dats oA oC m 0 c).owesAt () t.succ
        ∗ owns (c : Thread nD τ) (stg0 t) fullShare ((dats oA oC m 0 c).after 0 t) ∗ owns (c : Thread nD τ) (stg1 t) fullShare ((dats oA oC m 0 c).after 1 t) ∗ owns (c : Thread nD τ) (stg2 t) fullShare ((dats oA oC m 0 c).after 2 t)
        ∗ owns (c : Thread nD τ) (stg3 t) fullShare ((dats oA oC m 0 c).after 3 t) ∗ owns (c : Thread nD τ) (stg4 t) fullShare ((dats oA oC m 0 c).after 4 t))) :=
  point_core oA oC m c t (bodyAt0 t) fun E K => by
    rw [body_at]
    exact hb c _ _ _ _ _ _ _ _ _ _ _ _ _ (iblk m c 0 t) (iblk m c 1 t) (iblk m c 2 t) E K

/-- The body table's entry at a point is the body there. -/
theorem row_eq (t : Fin cfg0.N) : defs₀ (F := F) .tc cfg0.body (cfg0.bodyArgs t (cfg0.slots t)) = bodyAt0 t := by
  unfold defs₀; rw [Defs.onTc_tc]

/-- The body meets its obligation at every point. -/
theorem obligation (hb : Leaves oA oC) (c : Dev nD) : BodyObligation (dats (F := F) oA oC m 0 c) (defs₀ (F := F)) Variants.none () Set.univ := fun t => by
  rw [bigSep_W0, bigSep_W0, row_eq]
  exact triple_restated (point_run oA oC m hb c t) rfl .rfl fun _ => .rfl

set_option backward.isDefEq.respectTransparency.types false in
set_option maxHeartbeats 800000 in
/-- The launch: every run ends with the arrays as the proof data say, and no semaphore raised. -/
theorem run_ends (hb : Leaves oA oC) : θ_run defs (onTc (τ := τ) (main (F := F))) (s₀ m ρ) (fun r =>
    Pipeline.FramePost cfgs (dats oA oC m) 0 (Pipeline.afterTail₀ cfgs (dats oA oC m) 0 (V0 m) [hostOps1]) r ∧ r.2.sem = fun _ => 0) :=
  Pipeline.θ_run_frame_around (Q' := _) cfgs (dats oA oC m) (0 : Fin 1) launch0 defs₀ Variants.none m ρ main
    (hbody := fun c => (obligation oA oC m hb c).loose) (hshare := fun c => (dats oA oC m 0 c).share_full fun _ => rfl) (howed := fun _ _ => rfl)
    (V₀ := V0 m) (opss := [hostOps1]) (hsub := sfx_sub) (hfresh := sfx_fresh) (hkeep := sfx_keeps) (hmain := hmain m Variants.none)
    (hA := arrays_eq oA oC m) (hΦ := fun _ _ => rfl)

/-- The arguments end unchanged and no semaphore raised, for any float values. -/
theorem quiet (hb : Leaves oA oC) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats oA oC m) (arrays_eq oA oC m) ((θ_run defs _ _).mono (fun _ h => h.1) (run_ends oA oC m ρ hb)))
    ((θ_run defs _ _).mono (fun _ h => h.2) (run_ends oA oC m ρ hb))

end Cert.KernelIdeal.Short

end
-- ==== Proof.Twin.lean ====
/- The frame of the kernel as printed, carried over from the idealized program. -/
module
public import proofs.«01_k».proof.Proof.Run
public import proofs.«01_k».proof.Proof.Gen.Kernel
public import proofs.«01_k».proof.Proof.Gen.Kernel.Frame
@[expose] public section
set_option maxRecDepth 16384
noncomputable section
namespace Cert.Kernel.Short
open Idealize.ShloMosaic Idealize.ShloMosaic.TcCoe Idealize.ShloMosaic.Tactic Idealize.SL.Sem
variable {F : FTy → Type} [FloatOps F]
/-- The program as printed and the idealized one are the same text: the frame of one is the frame of the other,
    at every reading of the floats. -/
theorem same_frame (m : (ℓ : Loc Cert.Kernel.nD Cert.Kernel.τ Cert.Kernel.sig) → Buf (Elt F) ℓ) (g : Dev Cert.Kernel.nD → PrngReg) :
  (θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)) =
  (θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) := by sl_kernel_rfl

/-- The program as printed terminates, leaves its arguments unchanged and every counter at zero. -/
theorem quiet (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [same_frame]
  exact Cert.KernelIdeal.Short.quiet Attn.outAttn Attn.outCtx m g Cert.KernelIdeal.Short.body_run

end Cert.Kernel.Short
end
-- ==== Proof.Network.lean ====
/-
  The column network. A comparator takes two places to the greater and the smaller of their values; a network is a list
  of comparators. A network only rearranges its values, and what it does to truth values by "or" and "and" decides what
  it does to values of any linear order (each value is told by the thresholds it reaches). Truth values are followed for
  all 65536 inputs at once, as bits of natural numbers.
-/
module

public import proofs.«01_k».proof.Proof.Model
public import Mathlib.Data.Nat.Bitwise
public import Mathlib.Order.Lattice
public import Mathlib.Logic.Equiv.Basic
public import Mathlib.Tactic.Ring
public import Mathlib.Tactic.Positivity
public import Mathlib.Tactic.Linarith

@[expose] public section

set_option maxRecDepth 16384

namespace Cert.Network

/-- One comparator of a network over any values. -/
def cmp {α : Type} (f g : α → α → α) (s : Fin 16 → α) (p : Fin 16 × Fin 16) : Fin 16 → α := fun i =>
  if i = p.1 then f (s p.1) (s p.2) else if i = p.2 then g (s p.1) (s p.2) else s i

/-- A network. -/
def net {α : Type} (f g : α → α → α) (ps : List (Fin 16 × Fin 16)) (s : Fin 16 → α) : Fin 16 → α := ps.foldl (cmp f g) s

/-- A map that respects the two operations respects a network. -/
theorem map_net {α β : Type} (h : α → β) {f g : α → α → α} {f' g' : β → β → β} (hf : ∀ a b, h (f a b) = f' (h a) (h b))
    (hg : ∀ a b, h (g a b) = g' (h a) (h b)) (ps : List (Fin 16 × Fin 16)) (s : Fin 16 → α) (i : Fin 16) :
    h (net f g ps s i) = net f' g' ps (fun i => h (s i)) i := by
  unfold net
  induction ps generalizing s with
  | nil => rfl
  | cons p ps ih =>
    rw [List.foldl_cons, List.foldl_cons, ih]
    have e : (fun j => h (cmp f g s p j)) = cmp f' g' (fun j => h (s j)) p := by
      funext j
      simp only [cmp]
      split
      · exact hf _ _
      · split
        · exact hg _ _
        · rfl
    rw [e]

section Order
variable {α : Type} [LinearOrder α]

/-- A network rearranges its values. -/
theorem exists_perm (ps : List (Fin 16 × Fin 16)) (s : Fin 16 → α) : ∃ σ : Equiv.Perm (Fin 16), ∀ i, net max min ps s i = s (σ i) := by
  unfold net
  induction ps generalizing s with
  | nil => exact ⟨Equiv.refl _, fun _ => rfl⟩
  | cons p ps ih =>
    obtain ⟨σ, hσ⟩ := ih (cmp max min s p)
    rcases le_total (s p.2) (s p.1) with h | h
    · refine ⟨σ, fun i => ?_⟩
      rw [List.foldl_cons, hσ]
      simp only [cmp, max_eq_left h, min_eq_right h]
      split
      · next e => rw [e]
      · split
        · next e => rw [e]
        · rfl
    · refine ⟨σ.trans (Equiv.swap p.1 p.2), fun i => ?_⟩
      rw [List.foldl_cons, hσ]
      simp only [cmp, max_eq_right h, min_eq_left h, Equiv.trans_apply]
      split
      · next e => rw [e, Equiv.swap_apply_left]
      · split
        · next e => rw [e, Equiv.swap_apply_right]
        · next e₁ e₂ => rw [Equiv.swap_apply_of_ne_of_ne e₁ e₂]

/-- Whether place `i` reaches the threshold `t`, by the truth values of the inputs that reach it. -/
theorem reaches (ps : List (Fin 16 × Fin 16)) (s : Fin 16 → α) (t : α) (i : Fin 16) :
    decide (t ≤ net max min ps s i) = net or and ps (fun i => decide (t ≤ s i)) i :=
  map_net (fun a => decide (t ≤ a)) (fun a b => by simp [le_max_iff]) (fun a b => by simp [le_min_iff]) ps s i

end Order

/-! ### All truth values at once -/

/-- Variable `i` of `m` as a table of `2 ^ m` bits. -/
def tab : ℕ → ℕ → ℕ
  | 0, _ => 0
  | m + 1, i => if i = m then 2 ^ 2 ^ m * (2 ^ 2 ^ m - 1) else 2 ^ 2 ^ m * tab m i + tab m i

theorem tab_lt (m i : ℕ) : tab m i < 2 ^ 2 ^ m := by
  induction m with
  | zero => simp [tab]
  | succ m ih =>
    have e : 2 ^ 2 ^ (m + 1) = 2 ^ 2 ^ m * 2 ^ 2 ^ m := by rw [← pow_add, pow_succ]; congr 1; omega
    rw [e, tab]
    split
    · exact Nat.mul_lt_mul_of_pos_left (Nat.sub_lt (by positivity) Nat.one_pos) (by positivity)
    · calc _ < 2 ^ 2 ^ m * tab m i + 2 ^ 2 ^ m := Nat.add_lt_add_left ih _
        _ = 2 ^ 2 ^ m * (tab m i + 1) := by ring
        _ ≤ _ := Nat.mul_le_mul_left _ ih

/-- Bit `n` of variable `i` is bit `i` of `n`. -/
theorem testBit_tab (m i n : ℕ) (hi : i < m) (hn : n < 2 ^ m) : (tab m i).testBit n = n.testBit i := by
  induction m generalizing n with
  | zero => omega
  | succ m ih =>
    rw [tab]
    have e : 2 ^ (m + 1) = 2 ^ m + 2 ^ m := by rw [pow_succ]; omega
    split
    · next h =>
      subst h
      have := Nat.testBit_two_pow_mul_add (2 ^ 2 ^ i - 1) (b := 0) (i := 2 ^ i) (by positivity) n
      rw [Nat.add_zero] at this
      rw [this]
      split
      · next h => rw [Nat.testBit_lt_two_pow h]; simp
      · next h =>
        rw [Nat.testBit_two_pow_sub_one]
        have h1 : n = 2 ^ i + (n - 2 ^ i) := by omega
        rw [h1, Nat.testBit_two_pow_add_eq, Nat.testBit_lt_two_pow (by omega)]
        simp; omega
    · next h =>
      rw [Nat.testBit_two_pow_mul_add _ (tab_lt m i)]
      have hi' : i < m := by omega
      split
      · next hlt => exact ih n hi' hlt
      · next hge =>
        rw [ih _ hi' (by omega)]
        have h1 : n = 2 ^ m + (n - 2 ^ m) := by omega
        conv_rhs => rw [h1, Nat.testBit_two_pow_add_gt hi']

/-- The tables behind a network. -/
def tables (ps : List (Fin 16 × Fin 16)) : Fin 16 → ℕ := net Nat.lor Nat.land ps fun i => tab 16 i.val

/-- The number whose bits are the first `m` truth values of a sequence. -/
def code (b : ℕ → Bool) : ℕ → ℕ
  | 0 => 0
  | m + 1 => 2 ^ m * (b m).toNat + code b m

theorem code_lt (b : ℕ → Bool) (m : ℕ) : code b m < 2 ^ m := by
  induction m with
  | zero => simp [code]
  | succ m ih =>
    have := Bool.toNat_le (b m)
    rw [code, pow_succ]
    nlinarith

theorem testBit_code (b : ℕ → Bool) (m i : ℕ) (hi : i < m) : (code b m).testBit i = b i := by
  induction m with
  | zero => omega
  | succ m ih =>
    rw [code, Nat.testBit_two_pow_mul_add _ (code_lt b m)]
    split
    · next h => exact ih h
    · next h =>
      obtain rfl : i = m := by omega
      cases b i <;> simp

/-- What a network does to truth values is read off its tables. -/
theorem exists_testBit (b : Fin 16 → Bool) : ∃ n, ∀ ps i, net or and ps b i = (tables ps i).testBit n := by
  refine ⟨code (fun i => if h : i < 16 then b ⟨i, h⟩ else false) 16, fun ps i => ?_⟩
  generalize hc : code (fun i => if h : i < 16 then b ⟨i, h⟩ else false) 16 = n
  have h := map_net (fun a : ℕ => a.testBit n) (f := Nat.lor) (g := Nat.land) (f' := or) (g' := and)
    (fun a c => Nat.testBit_or a c n) (fun a c => Nat.testBit_and a c n) ps (fun i => tab 16 i.val) i
  rw [tables, h]
  congr 1
  funext j
  rw [testBit_tab 16 _ _ j.isLt (hc ▸ code_lt _ 16), ← hc, testBit_code _ 16 _ j.isLt, dif_pos j.isLt]

theorem tables_sorted : ∀ i : Fin 15, Nat.land (tables Attn.pairsFull i.succ) (tables Attn.pairsFull i.castSucc) = tables Attn.pairsFull i.succ := by
  decide +kernel

theorem tables_top : ∀ i : Fin 7, tables Attn.pairsTop (i.castLE (by decide)) = tables Attn.pairsFull (i.castLE (by decide)) := by
  decide +kernel

section Order
variable {α : Type} [LinearOrder α]

/-- The whole network puts its values in descending order. -/
theorem full_anti (s : Fin 16 → α) : Antitone (net max min Attn.pairsFull s) := by
  refine Fin.antitone_iff_succ_le.2 fun i => ?_
  obtain ⟨n, hn⟩ := exists_testBit fun j => decide (net max min Attn.pairsFull s i.succ ≤ s j)
  have h1 := reaches Attn.pairsFull s (net max min Attn.pairsFull s i.succ) i.succ
  have h2 := reaches Attn.pairsFull s (net max min Attn.pairsFull s i.succ) i.castSucc
  rw [hn, ← tables_sorted, decide_eq_true le_rfl] at h1
  rw [hn] at h2
  have h3 := Nat.testBit_and (tables Attn.pairsFull i.succ) (tables Attn.pairsFull i.castSucc) n
  have h4 : (tables Attn.pairsFull i.castSucc).testBit n = true := by
    have : true = (_ && _) := h1.trans h3
    exact (Bool.and_eq_true_iff.1 this.symm).2
  exact of_decide_eq_true (h2.trans h4)

/-- The pruned network agrees with the whole one in the first seven places. -/
theorem top_eq_full (s : Fin 16 → α) (i : Fin 7) :
    net max min Attn.pairsTop s (i.castLE (by decide)) = net max min Attn.pairsFull s (i.castLE (by decide)) := by
  refine eq_of_forall_le_iff fun t => ?_
  obtain ⟨n, hn⟩ := exists_testBit fun j => decide (t ≤ s j)
  rw [← decide_eq_decide, reaches, reaches, hn, hn, tables_top]

end Order

end Cert.Network

end
-- ==== Proof.Peel.lean ====
/-
  Peeling the greatest values off columns that are each in descending order. A column is a sequence of values, `⊥` from
  some place on; its head is its first value not yet taken. Taking the greatest head 31 times, in every column that holds
  it, meets the leaders of all the values, one after another, provided that the leaders are strictly decreasing and each
  occurs once.
-/
module

public import Mathlib.Order.Lattice
public import Mathlib.Data.Finset.Lattice.Fold
public import Mathlib.Data.Fintype.Basic

@[expose] public section

namespace Cert.Peel

variable {ι α : Type} [Fintype ι] [LinearOrder α] [OrderBot α]

/-- The greatest head, when column `c` has lost `D c` values. -/
def top (s : ι → ℕ → α) (D : ι → ℕ) : α := Finset.univ.sup fun c => s c (D c)

/-- How many values each column has lost after `k` extractions. -/
def lost (s : ι → ℕ → α) : ℕ → ι → ℕ
  | 0, _ => 0
  | k + 1, c => lost s k c + if s c (lost s k c) = top s (lost s k) then 1 else 0

/-- `v 0 > v 1 > … > v n` are the greatest values of the columns, each held once in its column. -/
structure Leaders (s : ι → ℕ → α) (v : ℕ → α) (n : ℕ) : Prop where
  anti : ∀ c, Antitone (s c)
  first : ∀ c d, s c d ≤ v 0
  held : ∀ k ≤ n, ∃ c d, s c d = v k
  strict : ∀ k < n, v (k + 1) < v k
  gap : ∀ k < n, ∀ c d, s c d < v k → s c d ≤ v (k + 1)
  once : ∀ k ≤ n, ∀ c d, s c d = v k → s c (d + 1) < v k

variable {s : ι → ℕ → α} {v : ℕ → α} {n : ℕ}

/-- What the columns have lost is what is greater than the next leader. -/
def Inv (s : ι → ℕ → α) (v : ℕ → α) (k : ℕ) : Prop := ∀ c, s c (lost s k c) ≤ v k ∧ ∀ d < lost s k c, v k < s c d

theorem top_of_inv (h : Leaders s v n) {k : ℕ} (hk : k ≤ n) (hi : Inv s v k) : top s (lost s k) = v k := by
  refine le_antisymm (Finset.sup_le fun c _ => (hi c).1) ?_
  obtain ⟨c, d, hd⟩ := h.held k hk
  have hle : lost s k c ≤ d := by
    by_contra hc
    exact absurd ((hi c).2 d (not_le.1 hc)) (by rw [hd]; exact lt_irrefl _)
  calc v k = s c d := hd.symm
    _ ≤ s c (lost s k c) := h.anti c hle
    _ ≤ _ := Finset.le_sup (f := fun c => s c (lost s k c)) (Finset.mem_univ c)

theorem inv (h : Leaders s v n) : ∀ k ≤ n, Inv s v k
  | 0, _ => fun c => ⟨h.first c _, fun d hd => absurd hd (Nat.not_lt_zero d)⟩
  | k + 1, hk => by
    have hi := inv h k (Nat.le_of_succ_le hk)
    have ht := top_of_inv h (Nat.le_of_succ_le hk) hi
    intro c
    have hs := h.strict k hk
    simp only [lost, ht]
    by_cases he : s c (lost s k c) = v k
    · rw [if_pos he]
      refine ⟨h.gap k hk c _ (h.once k (Nat.le_of_succ_le hk) c _ he), fun d hd => ?_⟩
      rcases Nat.lt_succ_iff_lt_or_eq.1 hd with hlt | heq
      · exact hs.trans ((hi c).2 d hlt)
      · rw [heq, he]; exact hs
    · rw [if_neg he, Nat.add_zero]
      exact ⟨h.gap k hk c _ (lt_of_le_of_ne (hi c).1 he), fun d hd => hs.trans ((hi c).2 d hd)⟩

/-- The greatest head after `k` extractions is leader `k`. -/
theorem top_eq (h : Leaders s v n) {k : ℕ} (hk : k ≤ n) : top s (lost s k) = v k := top_of_inv h hk (inv h k hk)

/-- A column loses at most one value at a time, -/
theorem lost_le (s : ι → ℕ → α) (k : ℕ) (c : ι) : lost s k c ≤ k := by
  induction k with
  | zero => exact le_rfl
  | succ k ih => simp only [lost]; split <;> omega

end Cert.Peel

end
-- ==== Proof.Row.lean ====
/-
  One row of a block over the extended reals: the extraction of `Model.lean` read at a row is the peeling of `Peel.lean`
  on the row's 128 columns, and so a row whose 33 greatest scores are distinct ends with the thirty-second greatest as its
  threshold.
-/
module

public import proofs.«01_k».proof.Proof.Network
public import proofs.«01_k».proof.Proof.Peel
public import Idealize.ShloMosaic.Lib.Pointwise
public import Idealize.ShloMosaic.PureOps.Reduce
public import Idealize.ShloMosaic.Lib.SortNet.Extract

@[expose] public section

set_option maxRecDepth 16384

noncomputable section

namespace Cert.Attn

open Idealize.ShloMosaic
open Cert.KernelIdeal Cert.KernelIdeal.Gen

/-! ### The operations at a row -/

theorem slab_at (x : FVec Ideal S1024x2048 .f32) (d : Fin 16) (r : Fin 1024) (c : Fin 128) :
    slab x d (ix2 r c) = x (ix2 r ⟨128 * d.val + c.val, by omega⟩) := by
  pointwise [slab]

theorem ofBits_negInf : Ideal.ofBits .f32 0xFF800000#32 = ⊥ := by simp [Ideal.ofBits, Ideal.ieee]

theorem rowMax_at (h : Slab Ideal) (r : Fin 1024) (z : Fin 1) :
    rowMax h (ix2 r z) = Finset.univ.sup fun c : Fin 128 => h (ix2 r c) := by
  pointwise [rowMax]
  rw [ofBits_negInf]
  rfl

theorem adv_at (h : Slab Ideal) (r : Fin 1024) (c : Fin 128) :
    adv h (ix2 r c) = if h (ix2 r c) = Finset.univ.sup (fun c : Fin 128 => h (ix2 r c)) then 1#1 else 0#1 := by
  pointwise [adv]
  rw [rowMax_at]
  split
  · next e => rw [decide_eq_true e]; rfl
  · next e => rw [decide_eq_false e]; rfl

/-- The depth of a lane grows by one where the lane advances. -/
theorem deeper_at (h : Slab Ideal) (d : Words) (r : Fin 1024) (c : Fin 128) (hd : (d (ix2 r c)).toNat < 2 ^ 31) :
    (deeper h d (ix2 r c)).toNat
      = (d (ix2 r c)).toNat + if h (ix2 r c) = Finset.univ.sup (fun c : Fin 128 => h (ix2 r c)) then 1 else 0 := by
  pointwise [deeper]
  rw [adv_at]
  split
  · show (d (ix2 r c) + 1#32).toNat = _
    rw [BitVec.toNat_add]
    simp; omega
  · show (d (ix2 r c) + 0#32).toNat = _
    simp

theorem select_apply {s : Shape} {α : Type} (m : IVec s 1) (x y : s.Idx → α) (i : s.Idx) :
    select m x y i = if m i = 1#1 then x i else y i := rfl

theorem bit_at (d : Words) (j : ℕ) (i : S1024x128.Idx) (hj : j < 32) :
    bit d (BitVec.ofNat 32 (2 ^ j)) i = 1#1 ↔ (d i).toNat.testBit j = true := by
  have e : bit d (BitVec.ofNat 32 (2 ^ j)) i = BitVec.ofBool (d i &&& BitVec.ofNat 32 (2 ^ j) != 0#32) := rfl
  have e2 : BitVec.ofNat 32 (2 ^ j) = BitVec.twoPow 32 j := by
    apply BitVec.eq_of_toNat_eq
    rw [BitVec.toNat_ofNat, BitVec.toNat_twoPow]
  rw [e, e2, BitVec.and_twoPow, BitVec.testBit_toNat]
  have h2 : BitVec.twoPow 32 j ≠ 0#32 := fun h => by
    have := congrArg BitVec.toNat h
    rw [BitVec.toNat_twoPow, Nat.mod_eq_of_lt (Nat.pow_lt_pow_right (by decide) hj)] at this
    exact absurd this (by simp)
  by_cases hb : (d i).getLsbD j = true
  · rw [hb, if_pos rfl, bne_iff_ne.2 h2]; decide
  · rw [Bool.not_eq_true] at hb
    rw [hb, if_neg Bool.false_ne_true]; decide

/-! ### The choice among slabs -/

theorem pick_get (b : IVec S1024x128 1) (i : S1024x128.Idx) : ∀ (l : List (Slab Ideal)) (n : ℕ), n < l.length →
    (b i = 1#1 ↔ n % 2 = 1) → ((pick b l)[n / 2]?).map (· i) = (l[n]?).map (· i)
  | [], n, hn, _ => absurd hn (Nat.not_lt_zero n)
  | [x], n, hn, _ => by
    obtain rfl : n = 0 := by simpa using hn
    rfl
  | x :: y :: l, 0, _, hb => by
    have : ¬ b i = 1#1 := by rw [hb]; decide
    simp [pick, select_apply, this]
  | x :: y :: l, 1, _, hb => by
    have : b i = 1#1 := by rw [hb]
    simp [pick, select_apply, this]
  | x :: y :: l, n + 2, hn, hb => by
    have h1 : (n + 2) / 2 = n / 2 + 1 := by omega
    rw [h1, pick, List.getElem?_cons_succ, List.getElem?_cons_succ, List.getElem?_cons_succ]
    exact pick_get b i l n (by simpa using hn) (by rw [hb]; omega)

theorem pick_length (b : IVec S1024x128 1) : ∀ l : List (Slab Ideal), (pick b l).length = (l.length + 1) / 2
  | [] => rfl
  | [x] => by simp [pick]
  | x :: y :: l => by
    rw [pick, List.length_cons, pick_length b l, List.length_cons, List.length_cons]
    omega

/-- A lane of depth `n` gets the entry of slab `n`. -/
theorem fetch_at (d : Words) (l : List (Slab Ideal)) (z : Slab Ideal) (i : S1024x128.Idx) (s : Slab Ideal) (hl : l.length ≤ 16)
    (hs : l[(d i).toNat]? = some s) : fetch d l z i = s i := by
  obtain ⟨n, hn⟩ : ∃ n, (d i).toNat = n := ⟨_, rfl⟩
  rw [hn] at hs
  have hlt : n < l.length := (List.getElem?_eq_some_iff.1 hs).1
  have bits : ∀ j < 32, (bit d (BitVec.ofNat 32 (2 ^ j)) i = 1#1 ↔ n / 2 ^ j % 2 = 1) := fun j hj => by
    rw [bit_at d j i hj, hn, Nat.testBit_eq_decide_div_mod_eq, decide_eq_true_iff]
  have h0 := pick_get (bit d 1#32) i l n hlt (by simpa using bits 0 (by decide))
  have l0 := pick_length (bit d 1#32) l
  have h1 := pick_get (bit d 2#32) i (pick (bit d 1#32) l) (n / 2) (by omega) (by simpa using bits 1 (by decide))
  have l1 := pick_length (bit d 2#32) (pick (bit d 1#32) l)
  have h2 := pick_get (bit d 4#32) i (pick (bit d 2#32) (pick (bit d 1#32) l)) (n / 2 / 2) (by omega)
    (by have := bits 2 (by decide); rw [Nat.div_div_eq_div_mul]; simpa using this)
  have l2 := pick_length (bit d 4#32) (pick (bit d 2#32) (pick (bit d 1#32) l))
  have h3 := pick_get (bit d 8#32) i (pick (bit d 4#32) (pick (bit d 2#32) (pick (bit d 1#32) l))) (n / 2 / 2 / 2) (by omega)
    (by have := bits 3 (by decide); rw [Nat.div_div_eq_div_mul, Nat.div_div_eq_div_mul]; simpa using this)
  have hz : n / 2 / 2 / 2 / 2 = 0 := by omega
  rw [hz, h2, h1, h0, hs, ← List.head?_eq_getElem?] at h3
  unfold fetch
  simp only [List.foldl_cons, List.foldl_nil]
  generalize (pick (bit d 8#32) (pick (bit d 4#32) (pick (bit d 2#32) (pick (bit d 1#32) l)))).head? = o at h3
  cases o with
  | none => simp at h3
  | some a => simpa using h3

/-! ### The extraction at a row -/

section Extract
variable {next : ℕ → Words → Slab Ideal} {h : Slab Ideal} {s : Fin 128 → ℕ → EReal} {r : Fin 1024}

/-- The extraction at row `r` follows the peeling of the row's columns as long as the next heads are fetched rightly. -/
theorem extract_at (N : ℕ) (hN : N ≤ 31) (h0 : ∀ c, h (ix2 r c) = s c 0)
    (hnext : ∀ k < N, ∀ c, ((extract next h (k + 1)).2 (ix2 r c)).toNat = Peel.lost s (k + 1) c →
      next k (extract next h (k + 1)).2 (ix2 r c) = s c (Peel.lost s (k + 1) c)) :
    ∀ k ≤ N, ∀ c, (extract next h k).1 (ix2 r c) = s c (Peel.lost s k c) ∧ ((extract next h k).2 (ix2 r c)).toNat = Peel.lost s k c
  | 0, _ => fun c => ⟨h0 c, rfl⟩
  | k + 1, hk => by
    have ih := extract_at N hN h0 hnext k (Nat.le_of_succ_le hk)
    intro c
    have ht : (Finset.univ.sup fun c : Fin 128 => (extract next h k).1 (ix2 r c)) = Peel.top s (Peel.lost s k) :=
      congrArg (Finset.sup Finset.univ) (funext fun c => (ih c).1)
    have hd : ((extract next h (k + 1)).2 (ix2 r c)).toNat = Peel.lost s (k + 1) c := by
      have hlt : ((extract next h k).2 (ix2 r c)).toNat < 2 ^ 31 := by
        rw [(ih c).2]; have := Peel.lost_le s k c; omega
      refine (deeper_at (extract next h k).1 (extract next h k).2 r c hlt).trans ?_
      rw [ht, (ih c).1, (ih c).2]
      rfl
    refine ⟨?_, hd⟩
    show select (adv (extract next h k).1) (next k (extract next h (k + 1)).2) (extract next h k).1 (ix2 r c) = _
    rw [select_apply, hnext k (Nat.lt_of_succ_le hk) c hd, adv_at, ht, (ih c).1]
    simp only [Peel.lost]
    split
    · simp
    · simp

/-- Depths only grow. -/
theorem depth_mono (next : ℕ → Words → Slab Ideal) (h : Slab Ideal) (r : Fin 1024) (c : Fin 128) :
    ∀ k ≤ 31, ∀ j ≤ k, ((extract next h j).2 (ix2 r c)).toNat ≤ ((extract next h k).2 (ix2 r c)).toNat
      ∧ ((extract next h k).2 (ix2 r c)).toNat ≤ k
  | 0, _, j, hj => by
    obtain rfl : j = 0 := by omega
    exact ⟨le_rfl, le_rfl⟩
  | k + 1, hk, j, hj => by
    have b := (depth_mono next h r c k (by omega) k le_rfl).2
    have e : ((extract next h (k + 1)).2 (ix2 r c)).toNat = _ :=
      deeper_at (extract next h k).1 (extract next h k).2 r c (by omega)
    refine ⟨?_, by rw [e]; split <;> omega⟩
    rcases Nat.lt_or_ge k j with hlt | hge
    · obtain rfl : j = k + 1 := by omega
      exact le_rfl
    · have := (depth_mono next h r c k (by omega) j hge).1
      rw [e]; omega

end Extract

/-- Without the overflow flag no lane went deeper than six. -/
theorem depth_le_of_not_over (d : Words) (ho : ¬ over d = 1#1) (r : Fin 1024) (c : Fin 128) : (d (ix2 r c)).toInt ≤ 6 := by
  by_contra hc
  refine ho ?_
  pointwise [over]
  have hm : (7 : Int) ≤ (Finset.fold IntOp.maxsi (2147483648#32) (fun x : Fin 1024 × Fin 128 => d (ix2 x.1 x.2)) Finset.univ).toInt := by
    have hf := Finset.fold_hom (op := IntOp.maxsi) (op' := max) (s := (Finset.univ : Finset (Fin 1024 × Fin 128)))
      (b := (2147483648#32 : BitVec 32)) (f := fun x => d (ix2 x.1 x.2)) (m := BitVec.toInt) SortNet.toInt_maxsi
    rw [← hf, Finset.le_fold_max]
    exact .inr ⟨(r, c), Finset.mem_univ _, not_le.1 hc⟩
  generalize Finset.fold IntOp.maxsi (2147483648#32) (fun x : Fin 1024 × Fin 128 => d (ix2 x.1 x.2)) Finset.univ = m at hm
  have h1 : Scalar.cmpi .sgt m 6#32 = 1#1 := by
    show BitVec.ofBool ((6#32).slt m) = 1#1
    have : (6#32).slt m = true := by
      rw [BitVec.slt_iff_toInt_lt]
      exact lt_of_lt_of_le (by decide) hm
    rw [this]; rfl
  rw [h1]; decide

/-! ### The threshold of a row -/

/-- The sixteen scores of lane `c` in row `r`. -/
def lane (x : FVec Ideal S1024x2048 .f32) (r : Fin 1024) (c : Fin 128) (d : Fin 16) : EReal := x (ix2 r ⟨128 * d.val + c.val, by omega⟩)

/-- The lane in descending order. -/
def col (x : FVec Ideal S1024x2048 .f32) (r : Fin 1024) (c : Fin 128) (d : ℕ) : EReal :=
  if h : d < 16 then Network.net max min pairsFull (lane x r c) ⟨d, h⟩ else ⊥

theorem sorted_at (ps : List (Fin 16 × Fin 16)) (x : FVec Ideal S1024x2048 .f32) (r : Fin 1024) (c : Fin 128) (d : Fin 16) :
    sorted ps x d (ix2 r c) = Network.net max min ps (lane x r c) d := by
  have h := Network.map_net (fun a : Slab Ideal => a (ix2 r c)) (f := maximumf) (g := minimumf) (f' := max) (g' := min)
    (fun _ _ => rfl) (fun _ _ => rfl) ps (slab x) d
  refine Eq.trans ?_ (h.trans (congrArg (fun w => Network.net max min ps w d) (funext fun e => slab_at x e r c)))
  rfl

theorem slabList_get (s : Fin 16 → Slab Ideal) (n : ℕ) (h : n < 16) : (slabList s)[n]? = some (s ⟨n, h⟩) := by
  interval_cases n <;> rfl

theorem fetch_slabs (s : Fin 16 → Slab Ideal) (w : ℕ) (d : Words) (r : Fin 1024) (c : Fin 128) (n : ℕ) (hn : (d (ix2 r c)).toNat = n)
    (h16 : n < 16) (hw : n < w) : fetch d ((slabList s).take w) (s 0) (ix2 r c) = s ⟨n, h16⟩ (ix2 r c) := by
  refine fetch_at d _ _ _ _ ((List.length_take_le' _ _).trans (by rfl)) ?_
  rw [hn, List.getElem?_take_of_lt hw, slabList_get s n h16]

section Threshold
variable (S : Fin 16 → Slab Ideal) (s : Fin 128 → ℕ → EReal) (r : Fin 1024)

/-- The full extraction follows the peeling. -/
theorem full_state (hS : ∀ (d : Fin 16) (c : Fin 128), S d (ix2 r c) = s c d.val) (hfar : ∀ c d, ¬ d < 16 → s c d = ⊥)
    (k : ℕ) (hk : k ≤ 31) (c : Fin 128) : (extract (nextFull S) (S 0) k).1 (ix2 r c) = s c (Peel.lost s k c) := by
  refine (extract_at 31 le_rfl (s := s) (fun c => hS 0 c) (fun k hk c hd => ?_) k hk c).1
  have hb := Peel.lost_le s (k + 1) c
  generalize Peel.lost s (k + 1) c = n at hd hb
  generalize (extract (nextFull S) (S 0) (k + 1)).2 = d at hd
  have hf (h16 : n < 16) : fetch d ((slabList S).take (min (k + 2) 16)) (S 0) (ix2 r c) = s c n := by
    rw [fetch_slabs _ _ d r c n hd h16 (by omega), hS]
  unfold nextFull
  split
  · rw [select_apply]
    have hi : (d (ix2 r c)).toInt = n := by
      rw [BitVec.toInt_eq_toNat_of_lt (by omega), hd]
    have hs : cmpi .sge d (broadcast S1024x128 16#32) (ix2 r c) = BitVec.ofBool ((16#32).sle (d (ix2 r c))) := rfl
    rw [hs]
    by_cases h16 : n < 16
    · have : (16#32).sle (d (ix2 r c)) = false := by
        rw [Bool.eq_false_iff, Ne, BitVec.sle_iff_toInt_le, hi]
        show ¬ (16 : Int) ≤ n
        omega
      rw [this, if_neg (by decide), hf h16]
    · have : (16#32).sle (d (ix2 r c)) = true := by
        rw [BitVec.sle_iff_toInt_le, hi]
        show (16 : Int) ≤ n
        omega
      rw [this, if_pos (by decide), hfar c n h16]
      exact ofBits_negInf
  · exact hf (by omega)

/-- The short extraction follows it too, if no lane ends deeper than six. -/
theorem top_state (hS : ∀ (d : Fin 16) (c : Fin 128), d.val < 7 → S d (ix2 r c) = s c d.val)
    (hd6 : ∀ c : Fin 128, ((extract (nextTop S) (S 0) 31).2 (ix2 r c)).toNat ≤ 6) (k : ℕ) (hk : k ≤ 31) (c : Fin 128) :
    (extract (nextTop S) (S 0) k).1 (ix2 r c) = s c (Peel.lost s k c) := by
  refine (extract_at 31 le_rfl (s := s) (fun c => hS 0 c (by decide)) (fun k hk c hd => ?_) k hk c).1
  have hb := Peel.lost_le s (k + 1) c
  have h6 := ((depth_mono (nextTop S) (S 0) r c 31 le_rfl (k + 1) hk).1).trans (hd6 c)
  rw [hd] at h6
  generalize Peel.lost s (k + 1) c = n at hd hb h6
  exact (fetch_slabs S (min (k + 2) 7) _ r c n hd (by omega) (by omega)).trans (hS ⟨n, by omega⟩ c (by simp only; omega))

theorem thr_at (h : Slab Ideal) (z : Fin 1) : thr h (ix2 r z) = Finset.univ.sup fun c : Fin 128 => h (ix2 r c) := by
  have : thr h = rowMax h := funext fun i => by
    idx_vars i
    pointwise [thr]
  rw [this, rowMax_at]

/-- One of the two thresholds, by the overflow flag of the short extraction. -/
theorem thresh_of {top full : Slab Ideal × Words} {w : EReal} (z : Fin 1)
    (hfull : (Finset.univ.sup fun c : Fin 128 => full.1 (ix2 r c)) = w)
    (htop : (∀ c : Fin 128, (top.2 (ix2 r c)).toInt ≤ 6) → (Finset.univ.sup fun c : Fin 128 => top.1 (ix2 r c)) = w) :
    (if over top.2 = 1#1 then thr full.1 else thr top.1) (ix2 r z) = w := by
  split
  · rw [thr_at, hfull]
  · next ho => rw [thr_at, htop (depth_le_of_not_over _ ho r)]

end Threshold

/-- The threshold is the last leader of the row's columns. -/
theorem thresh_col (x : FVec Ideal S1024x2048 .f32) (r : Fin 1024) {v : ℕ → EReal} (hv : Peel.Leaders (col x r) v 31) (z : Fin 1) :
    thresh x (ix2 r z) = v 31 := by
  rw [← Peel.top_eq hv le_rfl]
  have hF (d : Fin 16) (c : Fin 128) : sorted pairsFull x d (ix2 r c) = col x r c d.val := by
    rw [sorted_at, col, dif_pos d.isLt]
  have hT (d : Fin 16) (c : Fin 128) (h : d.val < 7) : sorted pairsTop x d (ix2 r c) = col x r c d.val := by
    rw [sorted_at, col, dif_pos d.isLt]
    exact Network.top_eq_full (lane x r c) ⟨d.val, h⟩
  unfold thresh topState fullState
  generalize sorted pairsTop x = T at hT
  generalize sorted pairsFull x = S at hF
  refine thresh_of r z ?_ fun h6 => ?_
  · exact congrArg (Finset.sup Finset.univ) (funext fun c => full_state S (col x r) r hF (fun c d h => dif_neg h) 31 le_rfl c)
  · refine congrArg (Finset.sup Finset.univ) (funext fun c => top_state T (col x r) r hT (fun c => ?_) 31 le_rfl c)
    have h1 := h6 c
    have h2 : ((extract (nextTop T) (T 0) 31).2 (ix2 r c)).toNat ≤ 31 := (depth_mono _ _ r c 31 le_rfl 31 le_rfl).2
    rw [BitVec.toInt_eq_toNat_of_lt (by omega)] at h1
    omega

/-- The 32 greatest scores of a row: distinct, each held by one column of keys, and all others below them. -/
structure RowLeaders (y : Fin 2048 → EReal) (v : ℕ → EReal) : Prop where
  first : ∀ j, y j ≤ v 0
  held : ∀ k ≤ 31, ∃ j, y j = v k
  strict : ∀ k < 31, v (k + 1) < v k
  pos : ⊥ < v 31
  gap : ∀ k < 31, ∀ j, y j < v k → y j ≤ v (k + 1)
  once : ∀ k ≤ 31, ∀ i j, y i = v k → y j = v k → i = j

theorem RowLeaders.bot_lt {y : Fin 2048 → EReal} {v : ℕ → EReal} (h : RowLeaders y v) (k : ℕ) (hk : k ≤ 31) : ⊥ < v k := by
  induction hk using Nat.decreasingInduction with
  | self => exact h.pos
  | of_succ k hk ih => exact ih.trans (h.strict k hk)

/-- The leaders of a row are the leaders of its columns. -/
theorem leaders_col {x : FVec Ideal S1024x2048 .f32} {r : Fin 1024} {v : ℕ → EReal} (h : RowLeaders (fun j => x (ix2 r j)) v) :
    Peel.Leaders (col x r) v 31 := by
  have perm (c : Fin 128) := Network.exists_perm pairsFull (lane x r c)
  have read (c : Fin 128) : ∃ σ : Equiv.Perm (Fin 16), ∀ d (hd : d < 16), col x r c d = lane x r c (σ ⟨d, hd⟩) := by
    obtain ⟨σ, hσ⟩ := perm c
    exact ⟨σ, fun d hd => by rw [col, dif_pos hd, hσ]⟩
  have far (c : Fin 128) (d : ℕ) (hd : ¬ d < 16) : col x r c d = ⊥ := dif_neg hd
  refine ⟨fun c d e hde => ?_, fun c d => ?_, fun k hk => ?_, h.strict, fun k hk c d hlt => ?_, fun k hk c d he => ?_⟩
  · by_cases he : e < 16
    · simp only [col, dif_pos he, dif_pos (lt_of_le_of_lt hde he)]
      exact Network.full_anti (lane x r c) hde
    · rw [far c e he]; exact bot_le
  · by_cases hd : d < 16
    · obtain ⟨σ, hσ⟩ := read c
      rw [hσ d hd]; exact h.first _
    · rw [far c d hd]; exact bot_le
  · obtain ⟨j, hj⟩ := h.held k hk
    obtain ⟨σ, hσ⟩ := read ⟨j.val % 128, Nat.mod_lt _ (by decide)⟩
    refine ⟨⟨j.val % 128, Nat.mod_lt _ (by decide)⟩, (σ.symm ⟨j.val / 128, by omega⟩).val, ?_⟩
    rw [hσ _ (Fin.isLt _), Fin.eta, Equiv.apply_symm_apply, ← hj, lane]
    exact congrArg (fun j => x (ix2 r j)) (Fin.ext (by simp only; omega))
  · by_cases hd : d < 16
    · obtain ⟨σ, hσ⟩ := read c
      rw [hσ d hd] at hlt ⊢
      exact h.gap k hk _ hlt
    · rw [far c d hd]; exact bot_le
  · by_cases hd : d + 1 < 16
    · obtain ⟨σ, hσ⟩ := read c
      have ha : col x r c (d + 1) ≤ col x r c d := by
        simp only [col, dif_pos hd, dif_pos (Nat.lt_of_succ_lt hd)]
        exact Network.full_anti (lane x r c) (Nat.le_succ d)
      refine lt_of_le_of_ne (he ▸ ha) fun heq => ?_
      rw [hσ d (Nat.lt_of_succ_lt hd)] at he
      rw [hσ (d + 1) hd] at heq
      have := congrArg Fin.val (h.once k hk _ _ he heq)
      have hv : σ ⟨d, Nat.lt_of_succ_lt hd⟩ = σ ⟨d + 1, hd⟩ := Fin.ext (by simp only at this; omega)
      have := congrArg Fin.val (σ.injective hv)
      simp only at this
      omega
    · rw [far c _ hd]; exact h.bot_lt k hk

/-- The threshold of a row is its thirty-second greatest score. -/
theorem thresh_at (x : FVec Ideal S1024x2048 .f32) (r : Fin 1024) {v : ℕ → EReal} (h : RowLeaders (fun j => x (ix2 r j)) v) (z : Fin 1) :
    thresh x (ix2 r z) = v 31 := thresh_col x r (leaders_col h) z

end Cert.Attn

end
-- ==== Proof.Order.lean ====
/- What a descending sort of one row says about the row: when the first thirty-three of the sorted values strictly fall,
   the sorted values are leaders in the sense the kernel's threshold needs. -/
module

public import proofs.«01_k».proof.Proof.Row
public import Idealize.ShloMosaic.Lib.SortFacts
public import Idealize.ShloMosaic.Lib.IdealHost

@[expose] public section

noncomputable section

namespace Cert.Attn

open Idealize.ShloMosaic

/-- The positions of the row `y` in the order a descending sort puts them. -/
def ord (y : Fin 2048 → EReal) : Fin 2048 → Fin 2048 :=
  sortedFrom fun k k' => Ideal.cmpTotal .gt (y k) (y k') == 1#1

/-- The `k`-th greatest value of the row, `⊥` past the end. -/
def ranked (y : Fin 2048 → EReal) (k : ℕ) : EReal := if h : k < 2048 then y (ord y ⟨k, h⟩) else ⊥

theorem ranked_of_lt (y : Fin 2048 → EReal) {k : ℕ} (h : k < 2048) : ranked y k = y (ord y ⟨k, h⟩) := dif_pos h

theorem gt_eq_true (a b : EReal) : (Ideal.cmpTotal .gt a b == 1#1) = decide (b < a) := by
  have h : Ideal.cmpTotal .gt a b = if b < a then 1#1 else 0#1 := by
    simp only [Ideal.cmpTotal, Ideal.cmp, CmpDirection.ordered]
    by_cases hb : b < a <;> simp [hb]
  rw [h]
  by_cases hb : b < a <;> simp [hb]

theorem ord_anti (y : Fin 2048 → EReal) {i j : Fin 2048} (h : i < j) : y (ord y j) ≤ y (ord y i) := by
  have := sortedFrom_noInversion (fun k k' => Ideal.cmpTotal .gt (y k) (y k') == 1#1)
    (fun k k' => Ideal.cmpTotal .gt (y k) (y k') == 1#1)
    (fun a b hab => by rw [gt_eq_true] at hab ⊢; simpa using le_of_lt (of_decide_eq_true hab))
    (fun a b hab => hab)
    (fun a b c hab hbc => by
      rw [gt_eq_true] at hab hbc ⊢
      exact decide_eq_false (not_lt.2 ((not_lt.1 (of_decide_eq_false hab)).trans (not_lt.1 (of_decide_eq_false hbc)))))
    i j h
  rw [gt_eq_true] at this
  exact not_lt.1 (of_decide_eq_false this)

theorem ranked_anti (y : Fin 2048 → EReal) {i j : ℕ} (h : i ≤ j) : ranked y j ≤ ranked y i := by
  rcases h.eq_or_lt with rfl | h
  · exact le_rfl
  · by_cases hj : j < 2048
    · rw [ranked_of_lt y hj, ranked_of_lt y (h.trans hj)]
      exact ord_anti y h
    · exact (dif_neg hj).trans_le bot_le

/-- Every position of the row has a rank. -/
theorem exists_rank (y : Fin 2048 → EReal) (j : Fin 2048) : ∃ k : Fin 2048, ord y k = j := sortedFrom_surjective _ j

section strict

variable {y : Fin 2048 → EReal} (hs : ∀ k < 32, ranked y (k + 1) < ranked y k)

include hs

theorem ranked_lt {i j : ℕ} (h : i < j) (hi : i < 32) : ranked y j < ranked y i :=
  (ranked_anti y h).trans_lt (hs i hi)

theorem rank_unique {k : ℕ} (hk : k ≤ 31) {i : Fin 2048} (h : y i = ranked y k) : i = ord y ⟨k, by omega⟩ := by
  obtain ⟨p, rfl⟩ := exists_rank y i
  rw [← ranked_of_lt y p.isLt] at h
  rcases lt_trichotomy p.val k with hp | hp | hp
  · exact absurd h (ne_of_gt (ranked_lt hs hp (by omega)))
  · congr 1; exact Fin.ext hp
  · exact absurd h (ne_of_lt (ranked_lt hs hp (by omega)))

/-- A row whose leading sorted values strictly fall has those values as its leaders. -/
theorem rowLeaders : RowLeaders y (ranked y) where
  first j := by
    obtain ⟨p, rfl⟩ := exists_rank y j
    rw [← ranked_of_lt y p.isLt]
    exact ranked_anti y (Nat.zero_le _)
  held k hk := ⟨_, (ranked_of_lt y (by omega)).symm⟩
  strict k hk := hs k (by omega)
  pos := bot_le.trans_lt (hs 31 (by omega))
  gap k hk j hj := by
    obtain ⟨p, rfl⟩ := exists_rank y j
    rw [← ranked_of_lt y p.isLt] at hj ⊢
    refine ranked_anti y ?_
    by_contra hp
    exact absurd (ranked_anti y (by omega : p.val ≤ k)) (not_le.2 hj)
  once k hk i j hi hj := (rank_unique hs hk hi).trans (rank_unique hs hk hj).symm

/-- A position is among the first thirty-two of the sorted order exactly when its value is at least the thirty-second's. -/
theorem leading_iff (j : Fin 2048) : ranked y 31 ≤ y j ↔ ∃ k : Fin 32, ord y ⟨k.val, by omega⟩ = j := by
  constructor
  · intro h
    obtain ⟨p, rfl⟩ := exists_rank y j
    rw [← ranked_of_lt y p.isLt] at h
    refine ⟨⟨p.val, ?_⟩, rfl⟩
    by_contra hp
    exact absurd (ranked_lt hs (by omega : 31 < p.val) (by omega)) (not_lt.2 h)
  · rintro ⟨k, rfl⟩
    rw [← ranked_of_lt y (by omega)]
    exact ranked_anti y (by omega)

end strict

/-- The weight of position `j` in the row `y`: the exponential of its score for the thirty-two leading positions and
    one for the others, over the sum of these and a small constant. -/
def weight (y : Fin 2048 → EReal) (j : Fin 2048) : EReal :=
  Ideal.div (if ranked y 31 ≤ y j then Ideal.exp (y j) else 1)
    (∑ i : Fin 2048, (if ranked y 31 ≤ y i then Ideal.exp (y i) else 1) + Ideal.ofBits .f32 0x322BCC77#32)

end Cert.Attn

end
-- ==== Proof.Weights.lean ====
/- The kernel's two blocks read at an index: a weight is a function of the row of scores alone, a score is an eighth of
   a row product. -/
module

public import proofs.«01_k».proof.Proof.Order

@[expose] public section

noncomputable section

namespace Cert.Attn

open Cert.KernelIdeal Cert.KernelIdeal.Gen Idealize.ShloMosaic

theorem ofBits_eighth : Ideal.ofBits .f32 0x3E000000#32 = (((1 : ℝ) / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem coe_mul_sum {n : ℕ} {a : ℝ} (ha : 0 ≤ a) (f : Fin n → EReal) : ∑ i, f i * (a : EReal) = (∑ i, f i) * (a : EReal) := by
  induction n with
  | zero => simp
  | succ n ih =>
    rw [Fin.sum_univ_succ, Fin.sum_univ_succ, ih]
    exact (EReal.right_distrib_of_nonneg_of_ne_top (by exact_mod_cast ha) (EReal.coe_ne_top a) _ _).symm

/-- A row product of eighths is an eighth of the row product. -/
theorem eighth_sum (a b : Fin 64 → EReal) :
    ∑ d, a d * Ideal.ofBits .f32 0x3E000000#32 * b d = Ideal.div (∑ d, a d * b d) (Ideal.ofBits .f32 0x41000000#32) := by
  rw [ofBits_eighth, ofBits_eight, Ideal.div, if_neg (by norm_num), ← EReal.coe_inv, show ((8 : ℝ)⁻¹) = 1 / 8 by norm_num,
    ← coe_mul_sum (by norm_num)]
  exact Finset.sum_congr rfl fun d _ => mul_right_comm _ _ _

/-- A score of the block. -/
theorem scores_at (q : FVec Ideal S1x1024x64 .f32) (k : FVec Ideal S1x2048x64 .f32) (r : Fin 1024) (j : Fin 2048) :
    scores (F := Ideal) q k (ix2 r j) = Ideal.div (∑ d : Fin 64, q (ix3 (0 : Fin 1) r d) * k (ix3 (0 : Fin 1) j d)) (Ideal.ofBits .f32 0x41000000#32) := by
  rw [← eighth_sum]
  pointwise [scores]

/-- A row of the block's scores. -/
def rowOf (q : FVec Ideal S1x1024x64 .f32) (k : FVec Ideal S1x2048x64 .f32) (r : Fin 1024) (j : Fin 2048) : EReal :=
  Ideal.div (∑ d : Fin 64, q (ix3 (0 : Fin 1) r d) * k (ix3 (0 : Fin 1) j d)) (Ideal.ofBits .f32 0x41000000#32)

/-- A weight of the block, when the threshold of its row is the thirty-second greatest score. -/
theorem weights_at (x : FVec Ideal S1024x2048 .f32) (t : FVec Ideal S1024x1 .f32) (r : Fin 1024) (j : Fin 2048)
    (ht : ∀ z : Fin 1, t (ix2 r z) = ranked (fun j => x (ix2 r j)) 31) :
    weights (F := Ideal) x t (ix2 r j) = weight (fun j => x (ix2 r j)) j := by
  pointwise [weights]
  rw [ht]
  rfl

/-- The weights of a block, from its queries and keys. -/
def wts (q : FVec Ideal S1x1024x64 .f32) (k : FVec Ideal S1x2048x64 .f32) : FVec Ideal S1024x2048 .f32 :=
  weights (F := Ideal) (scores (F := Ideal) q k) (thresh (F := Ideal) (scores (F := Ideal) q k))

theorem wts_at (q : FVec Ideal S1x1024x64 .f32) (k : FVec Ideal S1x2048x64 .f32) (r : Fin 1024) (j : Fin 2048)
    (hs : ∀ n < 32, ranked (rowOf q k r) (n + 1) < ranked (rowOf q k r) n) : wts q k (ix2 r j) = weight (rowOf q k r) j := by
  have hx : (fun j => scores (F := Ideal) q k (ix2 r j)) = rowOf q k r := funext fun j => scores_at q k r j
  rw [wts, weights_at _ _ r j fun z => thresh_at _ r (by rw [hx]; exact rowLeaders hs) z, hx]

/-- The block of weights, at a row whose leading scores strictly fall. -/
theorem outAttn_at (q : FVec Ideal S1x1024x64 .f32) (k : FVec Ideal S1x2048x64 .f32) (z : Fin 1) (r : Fin 1024) (j : Fin 2048)
    (hs : ∀ n < 32, ranked (rowOf q k r) (n + 1) < ranked (rowOf q k r) n) :
    outAttn (F := Ideal) q k (ix3 z r j) = weight (rowOf q k r) j := by
  rw [← wts_at q k r j hs]
  have ho : outAttn (F := Ideal) q k = shapeCast S1x1024x2048 (wts q k) shapeCasts_S1024x2048_S1x1024x2048 := rfl
  rw [ho]
  generalize wts q k = w
  pointwise []

/-- The block of weighted sums, at such a row. -/
theorem outCtx_at (q : FVec Ideal S1x1024x64 .f32) (k v : FVec Ideal S1x2048x64 .f32) (z : Fin 1) (r : Fin 1024) (d : Fin 64)
    (hs : ∀ n < 32, ranked (rowOf q k r) (n + 1) < ranked (rowOf q k r) n) :
    outCtx (F := Ideal) q k v (ix3 z r d) = ∑ j : Fin 2048, weight (rowOf q k r) j * v (ix3 (0 : Fin 1) j d) := by
  have ho : outCtx (F := Ideal) q k v = shapeCast S1x1024x64 (weighted (F := Ideal) (wts q k)
      (shapeCast S2048x64 v shapeCasts_S1x2048x64_S2048x64)) shapeCasts_S1024x64_S1x1024x64 := rfl
  simp only [ho, ← wts_at q k r _ hs]
  generalize wts q k = w
  pointwise [weighted]

end Cert.Attn

end
-- ==== Proof.Reference.lean ====
/- The reference read at an index: its score rows, the row its scatter leaves, its weights and its weighted sums. -/
module

public import proofs.«01_k».proof.Proof.Gen.ReferenceIdeal.Run
public import proofs.«01_k».proof.Proof.Weights
public import Idealize.ShloMosaic.Lib.Routing.OpsSet
public import Idealize.ShloMosaic.Lib.Routing.OpsPair

@[expose] public section

noncomputable section

namespace Cert.ReferenceIdeal.Read

open Cert.ReferenceIdeal Cert.ReferenceIdeal.Gen Idealize.ShloMosaic
open Cert.Attn (ord ranked ranked_of_lt leading_iff weight)

/-! ### The reference's term in parts -/

/-- The scores. -/
def sc (q k : FVec Ideal S1x16x2048x64 .f32) : FVec Ideal S1x16x2048x2048 .f32 :=
  Host.divf (broadcastInDim S1x16x2048x2048 ![1, 2, 3] bcast_S16x2048x2048_S1x16x2048x2048_1_2_3
      (Host.dotGeneral dot_S16x2048x64_S16x64x2048_S16x2048x2048_2_1_1_2_0_0 none (shapeCast _ q shapeCasts_S1x16x2048x64_S16x2048x64)
        (shapeCast _ (transpose S1x16x64x2048 [0, 1, 3, 2] k transposes_S1x16x2048x64_S1x16x64x2048_0_1_3_2) shapeCasts_S1x16x64x2048_S16x64x2048)))
    (broadcastInDim S1x16x2048x2048 ![] bcast_S_S1x16x2048x2048 (constant S_ .f32 0x41000000#32))

/-- The leading values of every row, -/
def vals (x : FVec Ideal S1x16x2048x2048 .f32) : FVec Ideal S1x16x2048x32 .f32 :=
  (Host.topK S1x16x2048x32 3 (FloatOps.cmpfTotal (F := Ideal) .gt) x sliceFits_S1x16x2048x2048_S1x16x2048x32).1

/-- and their positions. -/
def inds (x : FVec Ideal S1x16x2048x2048 .f32) : IVec S1x16x2048x32 32 :=
  (Host.topK S1x16x2048x32 3 (FloatOps.cmpfTotal (F := Ideal) .gt) x sliceFits_S1x16x2048x2048_S1x16x2048x32).2

/-- Where the leading values go: batch, head, row and position. -/
def places (i : IVec S1x16x2048x32 32) : IVec S1x16x2048x32x4 32 :=
  concatenate S1x16x2048x32x4 4 [
    ⟨S1x16x2048x32x1, ((broadcastInDim S1x16x2048x32x1 ![0, 1, 2, 3] bcast_S1x16x2048x32_S1x16x2048x32x1_0_1_2_3 (broadcastInDim S1x16x2048x32 ![0, 1, 2, 3] bcast_S1x1x1x1_S1x16x2048x32_0_1_2_3
      (select (cmpi .slt (broadcastInDim S1x1x1x1 ![0] bcast_S1_S1x1x1x1_0 (iotaInDim S1 32 0)) (broadcastInDim S1x1x1x1 ![] bcast_S_S1x1x1x1 (constantI S_ 32 0#32)))
        (addi (broadcastInDim S1x1x1x1 ![0] bcast_S1_S1x1x1x1_0 (iotaInDim S1 32 0)) (broadcastInDim S1x1x1x1 ![] bcast_S_S1x1x1x1 (constantI S_ 32 1#32))) (broadcastInDim S1x1x1x1 ![0] bcast_S1_S1x1x1x1_0 (iotaInDim S1 32 0))))) : (⟨S1x16x2048x32x1, .i32⟩ : BufTy).Contents (Elt Ideal))⟩,
    ⟨S1x16x2048x32x1, ((broadcastInDim S1x16x2048x32x1 ![0, 1, 2, 3] bcast_S1x16x2048x32_S1x16x2048x32x1_0_1_2_3 (broadcastInDim S1x16x2048x32 ![0, 1, 2, 3] bcast_S1x16x1x1_S1x16x2048x32_0_1_2_3
      (select (cmpi .slt (broadcastInDim S1x16x1x1 ![1] bcast_S16_S1x16x1x1_1 (iotaInDim S16 32 0)) (broadcastInDim S1x16x1x1 ![] bcast_S_S1x16x1x1 (constantI S_ 32 0#32)))
        (addi (broadcastInDim S1x16x1x1 ![1] bcast_S16_S1x16x1x1_1 (iotaInDim S16 32 0)) (broadcastInDim S1x16x1x1 ![] bcast_S_S1x16x1x1 (constantI S_ 32 16#32))) (broadcastInDim S1x16x1x1 ![1] bcast_S16_S1x16x1x1_1 (iotaInDim S16 32 0))))) : (⟨S1x16x2048x32x1, .i32⟩ : BufTy).Contents (Elt Ideal))⟩,
    ⟨S1x16x2048x32x1, ((broadcastInDim S1x16x2048x32x1 ![0, 1, 2, 3] bcast_S1x16x2048x32_S1x16x2048x32x1_0_1_2_3 (broadcastInDim S1x16x2048x32 ![0, 1, 2, 3] bcast_S1x1x2048x1_S1x16x2048x32_0_1_2_3
      (select (cmpi .slt (broadcastInDim S1x1x2048x1 ![2] bcast_S2048_S1x1x2048x1_2 (iotaInDim S2048 32 0)) (broadcastInDim S1x1x2048x1 ![] bcast_S_S1x1x2048x1 (constantI S_ 32 0#32)))
        (addi (broadcastInDim S1x1x2048x1 ![2] bcast_S2048_S1x1x2048x1_2 (iotaInDim S2048 32 0)) (broadcastInDim S1x1x2048x1 ![] bcast_S_S1x1x2048x1 (constantI S_ 32 2048#32))) (broadcastInDim S1x1x2048x1 ![2] bcast_S2048_S1x1x2048x1_2 (iotaInDim S2048 32 0))))) : (⟨S1x16x2048x32x1, .i32⟩ : BufTy).Contents (Elt Ideal))⟩,
    ⟨S1x16x2048x32x1, ((broadcastInDim S1x16x2048x32x1 ![0, 1, 2, 3] bcast_S1x16x2048x32_S1x16x2048x32x1_0_1_2_3
      (select (cmpi .slt i (broadcastInDim S1x16x2048x32 ![] bcast_S_S1x16x2048x32 (constantI S_ 32 0#32)))
        (addi i (broadcastInDim S1x16x2048x32 ![] bcast_S_S1x16x2048x32 (constantI S_ 32 2048#32))) i)) : (⟨S1x16x2048x32x1, .i32⟩ : BufTy).Contents (Elt Ideal))⟩] concatenates_S1x16x2048x32x1_S1x16x2048x32x1_S1x16x2048x32x1_S1x16x2048x32x1_S1x16x2048x32x4_d4

/-- The scores with all but the leading ones of every row put to zero. -/
def sparse (x : FVec Ideal S1x16x2048x2048 .f32) : FVec Ideal S1x16x2048x2048 .f32 :=
  Host.scatter scatter_S1x16x2048x2048_S1x16x2048x32x4_S1x16x2048x32_n_0123_0123_4 (fun _ b => b)
    (broadcastInDim S1x16x2048x2048 ![] bcast_S_S1x16x2048x2048 (constant S_ .f32 0x00000000#32)) (places (inds x)) (vals x)

/-- The weights of such scores. -/
def norm (y : FVec Ideal S1x16x2048x2048 .f32) : FVec Ideal S1x16x2048x2048 .f32 :=
  Host.divf (Host.exp y) (broadcastInDim S1x16x2048x2048 ![0, 1, 2, 3] bcast_S1x16x2048x1_S1x16x2048x2048_0_1_2_3
    (addf (broadcastInDim S1x16x2048x1 ![0, 1, 2] bcast_S1x16x2048_S1x16x2048x1_0_1_2
        (Host.reduceAdd (Host.exp y) (constant S_ .f32 0x00000000#32) reducesTo_S1x16x2048x2048_S1x16x2048_d3 h_S_))
      (broadcastInDim S1x16x2048x1 ![] bcast_S_S1x16x2048x1 (constant S_ .f32 0x322BCC77#32))))

/-- The weighted sums. -/
def sums (w : FVec Ideal S1x16x2048x2048 .f32) (v : FVec Ideal S1x16x2048x64 .f32) : FVec Ideal S1x16x2048x64 .f32 :=
  broadcastInDim S1x16x2048x64 ![1, 2, 3] bcast_S16x2048x64_S1x16x2048x64_1_2_3
    (Host.dotGeneral dot_S16x2048x2048_S16x2048x64_S16x2048x64_2_1_1_2_0_0 none
      (shapeCast _ w shapeCasts_S1x16x2048x2048_S16x2048x2048) (shapeCast _ v shapeCasts_S1x16x2048x64_S16x2048x64))

set_option maxRecDepth 8192 in
theorem weights_eq (m : (ℓ : Loc nD τ sig) → Buf (Elt Ideal) ℓ) (c : Dev nD) :
    Value.res_main_v49 (F := Ideal) m c
      = norm (sparse (sc (m ((c.tc : Thread nD τ).loc main_arg0)) (m ((c.tc : Thread nD τ).loc main_arg1)))) := rfl

set_option maxRecDepth 8192 in
theorem sums_eq (m : (ℓ : Loc nD τ sig) → Buf (Elt Ideal) ℓ) (c : Dev nD) :
    Value.res_main_v53 (F := Ideal) m c
      = sums (norm (sparse (sc (m ((c.tc : Thread nD τ).loc main_arg0)) (m ((c.tc : Thread nD τ).loc main_arg1)))))
          (m ((c.tc : Thread nD τ).loc main_arg2)) := rfl

/-! ### Each part at an index -/

/-- A row of scores. -/
def rowAt (q k : FVec Ideal S1x16x2048x64 .f32) (h : Fin 16) (i j : Fin 2048) : EReal :=
  Ideal.div (∑ d : Fin 64, q (ix4 (0 : Fin 1) h i d) * k (ix4 (0 : Fin 1) h j d)) (Ideal.ofBits .f32 0x41000000#32)

theorem sc_at (q k : FVec Ideal S1x16x2048x64 .f32) (h : Fin 16) (i j : Fin 2048) :
    sc q k (ix4 (0 : Fin 1) h i j) = rowAt q k h i j := by
  rw [rowAt]
  pointwise [sc]

theorem along_last (hd : 3 < S1x16x2048x2048.rank) (h : Fin 16) (i j p : Fin 2048) :
    Shape.Idx.along (s := S1x16x2048x2048) (ix4 (0 : Fin 1) h i j) ⟨3, hd⟩ p = ix4 (0 : Fin 1) h i p := by
  funext a
  fin_cases a <;> rfl

theorem sorted_vals (x : FVec Ideal S1x16x2048x2048 .f32) (z : IVec S1x16x2048x2048 32) (h : Fin 16) (i j : Fin 2048) :
    (Host.sort2 S1x16x2048x2048 3 (fun l r => FloatOps.cmpfTotal (F := Ideal) (φ := .f32) .gt l.1 r.1) x z).1 (ix4 (0 : Fin 1) h i j)
      = x (ix4 (0 : Fin 1) h i (ord (fun j => x (ix4 (0 : Fin 1) h i j)) j)) := by
  rw [Host.sort2, dif_pos (by decide)]
  refine (congrArg x (along_last (by decide) h i j _)).trans ?_
  refine congrArg (fun B : Fin 2048 → Fin 2048 → Bool => x (ix4 (0 : Fin 1) h i (sortedFrom B j))) (funext fun k => funext fun k' => ?_)
  exact congrArg₂ (fun a b => Ideal.cmpTotal .gt (x a) (x b) == 1#1) (along_last (by decide) h i j k) (along_last (by decide) h i j k')

theorem sorted_inds (x : FVec Ideal S1x16x2048x2048 .f32) (z : IVec S1x16x2048x2048 32) (h : Fin 16) (i j : Fin 2048) :
    (Host.sort2 S1x16x2048x2048 3 (fun l r => FloatOps.cmpfTotal (F := Ideal) (φ := .f32) .gt l.1 r.1) x z).2 (ix4 (0 : Fin 1) h i j)
      = z (ix4 (0 : Fin 1) h i (ord (fun j => x (ix4 (0 : Fin 1) h i j)) j)) := by
  rw [Host.sort2, dif_pos (by decide)]
  refine (congrArg z (along_last (by decide) h i j _)).trans ?_
  refine congrArg (fun B : Fin 2048 → Fin 2048 → Bool => z (ix4 (0 : Fin 1) h i (sortedFrom B j))) (funext fun k => funext fun k' => ?_)
  exact congrArg₂ (fun a b => Ideal.cmpTotal .gt (x a) (x b) == 1#1) (along_last (by decide) h i j k) (along_last (by decide) h i j k')

theorem vals_at (x : FVec Ideal S1x16x2048x2048 .f32) (h : Fin 16) (i : Fin 2048) (n : Fin 32) :
    vals x (ix4 (0 : Fin 1) h i n) = ranked (fun j => x (ix4 (0 : Fin 1) h i j)) n.val := by
  rw [vals, Host.topK, ranked_of_lt _ (by omega)]
  pointwise []
  exact sorted_vals x _ h i _

theorem inds_at (x : FVec Ideal S1x16x2048x2048 .f32) (h : Fin 16) (i : Fin 2048) (n : Fin 32) :
    inds x (ix4 (0 : Fin 1) h i n) = BitVec.ofNat 32 (ord (fun j => x (ix4 (0 : Fin 1) h i j)) ⟨n.val, by omega⟩).val := by
  rw [inds, Host.topK]
  pointwise []
  exact sorted_inds x _ h i _

theorem toInt_ofNat (p : ℕ) (hp : p < 2048) : (BitVec.ofNat 32 p).toInt = (p : Int) := by
  have hn : (BitVec.ofNat 32 p).toNat = p := by rw [BitVec.toNat_ofNat]; omega
  rw [BitVec.toInt_eq_toNat_of_lt (by omega), hn]

/-- A small index word is not negative, so nothing is added to it. -/
theorem wrap (p : ℕ) (hp : p < 2048) (z : BitVec 32) :
    Scalar.select (IntOp.cmpi CmpIPredicate.slt (BitVec.ofNat 32 p) 0#32) z (BitVec.ofNat 32 p) = BitVec.ofNat 32 p := by
  have h0 : (0#32).toInt = 0 := rfl
  have : IntOp.cmpi CmpIPredicate.slt (BitVec.ofNat 32 p) 0#32 = 0#1 := by
    simp only [IntOp.cmpi, BitVec.slt, toInt_ofNat p hp, h0]
    rw [decide_eq_false (by omega)]
    rfl
  rw [this]
  rfl

theorem places_batch (s : IVec S1x16x2048x32 32) (h : Fin 16) (i : Fin 2048) (n : Fin 32) :
    places s (ix5 (0 : Fin 1) h i n 0) = BitVec.ofNat 32 (0 : Fin 1).val := by
  pointwise [places]
  exact wrap 0 (by omega) _

theorem places_head (s : IVec S1x16x2048x32 32) (h : Fin 16) (i : Fin 2048) (n : Fin 32) :
    places s (ix5 (0 : Fin 1) h i n 1) = BitVec.ofNat 32 h.val := by
  pointwise [places]
  exact wrap _ (by omega) _

theorem places_row (s : IVec S1x16x2048x32 32) (h : Fin 16) (i : Fin 2048) (n : Fin 32) :
    places s (ix5 (0 : Fin 1) h i n 2) = BitVec.ofNat 32 i.val := by
  pointwise [places]
  exact wrap _ (by omega) _

theorem places_col (s : IVec S1x16x2048x32 32) (h : Fin 16) (i : Fin 2048) (n : Fin 32) (p : Fin 2048)
    (hp : s (ix4 (0 : Fin 1) h i n) = BitVec.ofNat 32 p.val) :
    places s (ix5 (0 : Fin 1) h i n 3) = BitVec.ofNat 32 p.val := by
  pointwise [places]
  rw [hp]
  exact wrap _ (by omega) _

theorem norm_at (y : FVec Ideal S1x16x2048x2048 .f32) (h : Fin 16) (i j : Fin 2048) :
    norm y (ix4 (0 : Fin 1) h i j) = Ideal.div (Ideal.exp (y (ix4 (0 : Fin 1) h i j)))
      (∑ j : Fin 2048, Ideal.exp (y (ix4 (0 : Fin 1) h i j)) + Ideal.ofBits .f32 0x322BCC77#32) := by
  pointwise [norm]

theorem sums_at (w : FVec Ideal S1x16x2048x2048 .f32) (v : FVec Ideal S1x16x2048x64 .f32) (h : Fin 16) (i : Fin 2048) (d : Fin 64) :
    sums w v (ix4 (0 : Fin 1) h i d) = ∑ j : Fin 2048, w (ix4 (0 : Fin 1) h i j) * v (ix4 (0 : Fin 1) h j d) := by
  pointwise [sums]

theorem window_eq (u : S1x16x2048x32.Idx) (a : Fin 4) :
    scatter_S1x16x2048x2048_S1x16x2048x32x4_S1x16x2048x32_n_0123_0123_4.window u a = 0 := by
  fin_cases a <;> rfl

theorem start_eq (s : IVec S1x16x2048x32x4 32) (h : Fin 16) (i : Fin 2048) (n : Fin 32) (a : Fin 4) :
    scatter_S1x16x2048x2048_S1x16x2048x32x4_S1x16x2048x32_n_0123_0123_4.start (ix4 (0 : Fin 1) h i n) s a = (s (ix5 (0 : Fin 1) h i n a)).toInt := by
  have hm : a ∈ scatter_S1x16x2048x2048_S1x16x2048x32x4_S1x16x2048x32_n_0123_0123_4.scatterDimsToOperandDims := by
    revert a; decide
  rw [ScatterDims.start, dif_pos hm]
  refine congrArg (fun j => (s j).toInt) (funext fun b => Fin.ext ?_)
  fin_cases b <;> fin_cases a <;> rfl

/-- An update goes to the entry its index words name. -/
theorem lands_iff (x : FVec Ideal S1x16x2048x2048 .f32) (h h' : Fin 16) (i i' j : Fin 2048) (n : Fin 32) :
    scatter_S1x16x2048x2048_S1x16x2048x32x4_S1x16x2048x32_n_0123_0123_4.resultIdx? (ix4 (0 : Fin 1) h' i' n) (places (inds x))
        = some (ix4 (0 : Fin 1) h i j)
      ↔ h' = h ∧ i' = i ∧ ord (fun j => x (ix4 (0 : Fin 1) h' i' j)) ⟨n.val, by omega⟩ = j := by
  have h0 : (places (inds x) (ix5 (0 : Fin 1) h' i' n 0)).toInt = ((0 : ℕ) : Int) := by
    rw [places_batch]; exact toInt_ofNat _ (by decide)
  have h1 : (places (inds x) (ix5 (0 : Fin 1) h' i' n 1)).toInt = (h'.val : Int) := by
    rw [places_head]; exact toInt_ofNat _ (by omega)
  have h2 : (places (inds x) (ix5 (0 : Fin 1) h' i' n 2)).toInt = (i'.val : Int) := by
    rw [places_row]; exact toInt_ofNat _ (by omega)
  have h3 : (places (inds x) (ix5 (0 : Fin 1) h' i' n 3)).toInt
      = ((ord (fun j => x (ix4 (0 : Fin 1) h' i' j)) ⟨n.val, by omega⟩).val : Int) := by
    rw [places_col _ h' i' n _ (inds_at x h' i' n)]; exact toInt_ofNat _ (by omega)
  rw [Routing.resultIdx?_eq_some]
  simp only [window_eq, start_eq, Nat.cast_zero, add_zero]
  constructor
  · intro hk
    refine ⟨Fin.ext ?_, Fin.ext ?_, Fin.ext ?_⟩
    · exact_mod_cast h1.symm.trans (hk 1)
    · exact_mod_cast h2.symm.trans (hk 2)
    · exact_mod_cast h3.symm.trans (hk 3)
  · rintro ⟨rfl, rfl, rfl⟩ a
    fin_cases a
    · exact h0
    · exact h1
    · exact h2
    · exact h3

/-- The coordinates of an update. -/
theorem upd_cases (u : S1x16x2048x32.Idx) : ∃ (h : Fin 16) (i : Fin 2048) (n : Fin 32), u = ix4 (0 : Fin 1) h i n := by
  refine ⟨u 1, u 2, u 3, funext fun a => ?_⟩
  fin_cases a
  · exact Subsingleton.elim (α := Fin 1) _ _
  · rfl
  · rfl
  · rfl

/-- The scattered scores: a row keeps its thirty-two leading scores and is zero elsewhere. -/
theorem sparse_at (x : FVec Ideal S1x16x2048x2048 .f32) (h : Fin 16) (i j : Fin 2048)
    (hs : ∀ n < 32, ranked (fun j => x (ix4 (0 : Fin 1) h i j)) (n + 1) < ranked (fun j => x (ix4 (0 : Fin 1) h i j)) n) :
    sparse x (ix4 (0 : Fin 1) h i j)
      = if ranked (fun j => x (ix4 (0 : Fin 1) h i j)) 31 ≤ x (ix4 (0 : Fin 1) h i j) then x (ix4 (0 : Fin 1) h i j) else 0 := by
  have hl := leading_iff hs j
  rw [sparse]
  split_ifs with hj
  · obtain ⟨n, hn⟩ := hl.1 hj
    refine Routing.scatter_set_hit _ _ _ _ _ _ (fun u hu => ?_) (ix4 (0 : Fin 1) h i n) ((lands_iff x h h i i j n).2 ⟨rfl, rfl, hn⟩)
    obtain ⟨h', i', n', rfl⟩ := upd_cases u
    obtain ⟨rfl, rfl, rfl⟩ := (lands_iff x h h' i i' j n').1 hu
    rw [vals_at, ranked_of_lt _ (by omega)]
  · refine (Routing.scatter_set_miss _ _ _ _ _ fun u hu => ?_).trans ?_
    · obtain ⟨h', i', n', rfl⟩ := upd_cases u
      obtain ⟨rfl, rfl, rfl⟩ := (lands_iff x h h' i i' j n').1 hu
      exact hj (hl.2 ⟨n', rfl⟩)
    · pointwise []

/-- The reference's weights, at a row whose leading scores strictly fall, -/
theorem weights_at (q k : FVec Ideal S1x16x2048x64 .f32) (h : Fin 16) (i j : Fin 2048)
    (hs : ∀ n < 32, ranked (rowAt q k h i) (n + 1) < ranked (rowAt q k h i) n) :
    norm (sparse (sc q k)) (ix4 (0 : Fin 1) h i j) = weight (rowAt q k h i) j := by
  have hx : (fun j => sc q k (ix4 (0 : Fin 1) h i j)) = rowAt q k h i := funext fun j => sc_at q k h i j
  have he : Ideal.exp 0 = 1 := by
    show ((Real.exp 0 : ℝ) : EReal) = 1
    rw [Real.exp_zero]; rfl
  have hy (j : Fin 2048) : Ideal.exp (sparse (sc q k) (ix4 (0 : Fin 1) h i j))
      = if ranked (rowAt q k h i) 31 ≤ rowAt q k h i j then Ideal.exp (rowAt q k h i j) else 1 := by
    rw [sparse_at _ h i j (by rw [hx]; exact hs), hx, sc_at, apply_ite Ideal.exp, he]
  rw [norm_at]
  simp only [hy]
  rfl

/-- and its weighted sums. -/
theorem sums_weights_at (q k v : FVec Ideal S1x16x2048x64 .f32) (h : Fin 16) (i : Fin 2048) (d : Fin 64)
    (hs : ∀ n < 32, ranked (rowAt q k h i) (n + 1) < ranked (rowAt q k h i) n) :
    sums (norm (sparse (sc q k))) v (ix4 (0 : Fin 1) h i d) = ∑ j : Fin 2048, weight (rowAt q k h i) j * v (ix4 (0 : Fin 1) h j d) := by
  rw [sums_at]
  exact Finset.sum_congr rfl fun j _ => by rw [weights_at q k h i j hs]

end Cert.ReferenceIdeal.Read

end
-- ==== Proof.Final.lean ====
/- What the idealized kernel's run leaves: every block put at its place, the result arrays are the rows' weights and the
   weighted sums of the values. -/
module

public import proofs.«01_k».proof.Proof.Run
public import proofs.«01_k».proof.Proof.Reference
public import Idealize.ShloMosaic.Lib.Pipeline.ValueKit
public import Idealize.ShloMosaic.Lib.Pointwise

@[expose] public section

noncomputable section

namespace Cert.KernelIdeal.Final

open Cert.KernelIdeal Cert.KernelIdeal.Gen Cert.KernelIdeal.Short
open Idealize.ShloMosaic Idealize.ShloMosaic.TcCoe Idealize.SL.Sem
open Idealize.ShloMosaic.Pipeline (Dat)
open Cert.ReferenceIdeal.Read (rowAt)
open Cert.Attn (outAttn outCtx outAttn_at outCtx_at rowOf ranked weight)

variable (m : (ℓ : Loc nD τ sig) → Buf (Elt Ideal) ℓ)

theorem idx : ∀ t : Fin cfg0.N, win0_0.index t = ![t.val / 2, t.val % 2, 0] ∧ win0_1.index t = ![t.val / 2, 0, 0]
    ∧ win0_2.index t = ![t.val / 2, 0, 0] ∧ win0_3.index t = ![t.val / 2, t.val % 2, 0] ∧ win0_4.index t = ![t.val / 2, t.val % 2, 0] :=
  (by decide +kernel : ∀ t : Fin grid0.N, _)

theorem point_lt (t : Fin cfg0.N) : t.val < 32 := t.isLt.trans_eq N_0

/-- The arguments as arrays. -/
abbrev Q (c : Dev nD) : FVec Ideal S1x16x2048x64 .f32 := m ((c : Thread nD τ).loc main_arg0)
abbrev K (c : Dev nD) : FVec Ideal S1x16x2048x64 .f32 := m ((c : Thread nD τ).loc main_arg1)
abbrev U (c : Dev nD) : FVec Ideal S1x16x2048x64 .f32 := m ((c : Thread nD τ).loc main_arg2)

/-- The head and the first row of a point. -/
abbrev head (t : Fin cfg0.N) : Fin 16 := ⟨t.val / 2, by have := point_lt t; omega⟩
abbrev line (t : Fin cfg0.N) (r : Fin 1024) : Fin 2048 := ⟨t.val % 2 * 1024 + r.val, by omega⟩

/-- What the region finds in its three operands: the arguments with the unit axis dropped. -/
theorem V_q (c : Dev nD) : V m c main_call0_v0 = shapeCast S16x2048x64 (Q m c) shapeCasts_S1x16x2048x64_S16x2048x64 := by
  show StableHlo.after (List.flatten [hostOps0]) (fun b => m (c, b)) _ = _
  simp only [List.flatten_cons, List.flatten_nil, List.append_nil]
  after_results
  rfl

theorem V_k (c : Dev nD) : V m c main_call0_v1 = shapeCast S16x2048x64 (K m c) shapeCasts_S1x16x2048x64_S16x2048x64 := by
  show StableHlo.after (List.flatten [hostOps0]) (fun b => m (c, b)) _ = _
  simp only [List.flatten_cons, List.flatten_nil, List.append_nil]
  after_results
  rfl

theorem V_v (c : Dev nD) : V m c main_call0_v2 = shapeCast S16x2048x64 (U m c) shapeCasts_S1x16x2048x64_S16x2048x64 := by
  show StableHlo.after (List.flatten [hostOps0]) (fun b => m (c, b)) _ = _
  simp only [List.flatten_cons, List.flatten_nil, List.append_nil]
  after_results
  rfl

theorem drop_at (x : FVec Ideal S1x16x2048x64 .f32) (i : S16x2048x64.Idx) (h : Fin 16) (j : Fin 2048) (d : Fin 64)
    (h0 : (i 0).val = h.val) (h1 : (i 1).val = j.val) (h2 : (i 2).val = d.val) :
    shapeCast S16x2048x64 x shapeCasts_S1x16x2048x64_S16x2048x64 i = x (ix4 (0 : Fin 1) h j d) := by
  have hi : i = ix3 h j d := by
    funext a
    fin_cases a
    · exact Fin.ext h0
    · exact Fin.ext h1
    · exact Fin.ext h2
  rw [hi]
  pointwise []

theorem q_at (c : Dev nD) (t : Fin cfg0.N) (r : Fin 1024) (d : Fin 64) :
    (iblk m c 0 t : FVec Ideal S1x1024x64 .f32) (ix3 (0 : Fin 1) r d) = Q m c (ix4 (0 : Fin 1) (head t) (line t r) d) := by
  blk_simp [iblk]
  rw [V_q]
  refine drop_at _ _ _ _ _ ?_ ?_ ?_
  · blk_simp [idx t]; exact Nat.add_zero _
  · blk_simp [idx t]
  · blk_simp [idx t]

theorem k_at (c : Dev nD) (t : Fin cfg0.N) (j : Fin 2048) (d : Fin 64) :
    (iblk m c 1 t : FVec Ideal S1x2048x64 .f32) (ix3 (0 : Fin 1) j d) = K m c (ix4 (0 : Fin 1) (head t) j d) := by
  blk_simp [iblk]
  rw [V_k]
  refine drop_at _ _ _ _ _ ?_ ?_ ?_
  · blk_simp [idx t]; exact Nat.add_zero _
  · blk_simp [idx t]
  · blk_simp [idx t]

theorem v_at (c : Dev nD) (t : Fin cfg0.N) (j : Fin 2048) (d : Fin 64) :
    (iblk m c 2 t : FVec Ideal S1x2048x64 .f32) (ix3 (0 : Fin 1) j d) = U m c (ix4 (0 : Fin 1) (head t) j d) := by
  blk_simp [iblk]
  rw [V_v]
  refine drop_at _ _ _ _ _ ?_ ?_ ?_
  · blk_simp [idx t]; exact Nat.add_zero _
  · blk_simp [idx t]
  · blk_simp [idx t]

/-- The rows of a point's block of scores are rows of the whole scores. -/
theorem row_eq (c : Dev nD) (t : Fin cfg0.N) (r : Fin 1024) :
    rowOf (iblk m c 0 t) (iblk m c 1 t) r = rowAt (Q m c) (K m c) (head t) (line t r) := by
  funext j
  refine congrArg (fun s => Ideal.div s _) (Finset.sum_congr rfl fun d _ => ?_)
  exact congrArg₂ (· * ·) (q_at m c t r d) (k_at m c t j d)

/-- What the two results are to hold, before the unit axis is put back. -/
def attn3 (q k : FVec Ideal S1x16x2048x64 .f32) : FVec Ideal S16x2048x2048 .f32 := fun i => weight (rowAt q k (i 0) (i 1)) (i 2)
def ctx3 (q k v : FVec Ideal S1x16x2048x64 .f32) : FVec Ideal S16x2048x64 .f32 :=
  fun i => ∑ j : Fin 2048, weight (rowAt q k (i 0) (i 1)) j * v (ix4 (0 : Fin 1) (i 0) j (i 2))

/-- Every row's leading scores strictly fall. -/
def Falls (q k : FVec Ideal S1x16x2048x64 .f32) : Prop :=
  ∀ (h : Fin 16) (i : Fin 2048), ∀ n < 32, ranked (rowAt q k h i) (n + 1) < ranked (rowAt q k h i) n

theorem attn3_at (q k : FVec Ideal S1x16x2048x64 .f32) (i : S16x2048x2048.Idx) (h : Fin 16) (r j : Fin 2048)
    (h0 : (i 0).val = h.val) (h1 : (i 1).val = r.val) (h2 : (i 2).val = j.val) : attn3 q k i = weight (rowAt q k h r) j := by
  obtain rfl : i 0 = h := Fin.ext h0
  obtain rfl : i 1 = r := Fin.ext h1
  obtain rfl : i 2 = j := Fin.ext h2
  rfl

theorem ctx3_at (q k v : FVec Ideal S1x16x2048x64 .f32) (i : S16x2048x64.Idx) (h : Fin 16) (r : Fin 2048) (d : Fin 64)
    (h0 : (i 0).val = h.val) (h1 : (i 1).val = r.val) (h2 : (i 2).val = d.val) :
    ctx3 q k v i = ∑ j : Fin 2048, weight (rowAt q k h r) j * v (ix4 (0 : Fin 1) h j d) := by
  obtain rfl : i 0 = h := Fin.ext h0
  obtain rfl : i 1 = r := Fin.ext h1
  obtain rfl : i 2 = d := Fin.ext h2
  rfl

section arrays

variable (oA : Vec Ideal S1x1024x64 .f32 → Vec Ideal S1x2048x64 .f32 → FVec Ideal S1x1024x2048 .f32)
  (oC : Vec Ideal S1x1024x64 .f32 → Vec Ideal S1x2048x64 .f32 → Vec Ideal S1x2048x64 .f32 → FVec Ideal S1x1024x64 .f32)

/-- The array of weights, when every block holds its part of it. -/
theorem array_attn (c : Dev nD) (q k : FVec Ideal S1x16x2048x64 .f32)
    (h : ∀ (t : Fin cfg0.N) (z : Fin 1) (r : Fin 1024) (j : Fin 2048),
      oA (iblk m c 0 t) (iblk m c 1 t) (ix3 z r j) = weight (rowAt q k (head t) (line t r)) j) :
    (dats oA oC m 0 c).arrAt 3 (cfgs 0).N = attn3 q k := by
  refine (dats oA oC m 0 c).arrAt_eq_of_covers 3 _ (by decide +kernel) fun t _ y => ?_
  blk_simp
  rw [after_attn]
  idx_vars y
  rw [h]
  refine (attn3_at q k _ _ _ _ ?_ ?_ ?_).symm
  · blk_simp [idx t]
  · blk_simp [idx t]
  · blk_simp [idx t]

/-- The array of weighted sums, likewise. -/
theorem array_ctx (c : Dev nD) (q k v : FVec Ideal S1x16x2048x64 .f32)
    (h : ∀ (t : Fin cfg0.N) (z : Fin 1) (r : Fin 1024) (d : Fin 64),
      oC (iblk m c 0 t) (iblk m c 1 t) (iblk m c 2 t) (ix3 z r d)
        = ∑ j : Fin 2048, weight (rowAt q k (head t) (line t r)) j * v (ix4 (0 : Fin 1) (head t) j d)) :
    (dats oA oC m 0 c).arrAt 4 (cfgs 0).N = ctx3 q k v := by
  refine (dats oA oC m 0 c).arrAt_eq_of_covers 4 _ (by decide +kernel) fun t _ y => ?_
  blk_simp
  rw [after_ctx]
  idx_vars y
  rw [h]
  refine (ctx3_at q k v _ _ _ _ ?_ ?_ ?_).symm
  · blk_simp [idx t]
  · blk_simp [idx t]
  · blk_simp [idx t]

/-- The results after the last reshapes. -/
theorem tail_attn (c : Dev nD) : Pipeline.afterTail₀ cfgs (dats oA oC m) 0 (V0 m) [hostOps1] c main_v0_1
    = shapeCast S1x16x2048x2048 ((dats oA oC m 0 c).arrAt 3 (cfgs 0).N : FVec Ideal S16x2048x2048 .f32) shapeCasts_S16x2048x2048_S1x16x2048x2048 := by
  unfold Pipeline.afterTail₀
  simp only [List.flatten_cons, List.flatten_nil, List.append_nil]
  after_results
  exact congrArg (fun x : FVec Ideal S16x2048x2048 .f32 => shapeCast S1x16x2048x2048 x shapeCasts_S16x2048x2048_S1x16x2048x2048)
    (Pipeline.withArrays_arr spec0 winFacts0.arr_inj c (V0 m c) _ 3)

theorem tail_ctx (c : Dev nD) : Pipeline.afterTail₀ cfgs (dats oA oC m) 0 (V0 m) [hostOps1] c main_v0_0
    = shapeCast S1x16x2048x64 ((dats oA oC m 0 c).arrAt 4 (cfgs 0).N : FVec Ideal S16x2048x64 .f32) shapeCasts_S16x2048x64_S1x16x2048x64 := by
  unfold Pipeline.afterTail₀
  simp only [List.flatten_cons, List.flatten_nil, List.append_nil]
  after_results
  exact congrArg (fun x : FVec Ideal S16x2048x64 .f32 => shapeCast S1x16x2048x64 x shapeCasts_S16x2048x64_S1x16x2048x64)
    (Pipeline.withArrays_arr spec0 winFacts0.arr_inj c (V0 m c) _ 4)

end arrays

/-- The results of the whole run. -/
def attn4 (q k : FVec Ideal S1x16x2048x64 .f32) : FVec Ideal S1x16x2048x2048 .f32 :=
  shapeCast S1x16x2048x2048 (attn3 q k) shapeCasts_S16x2048x2048_S1x16x2048x2048
def ctx4 (q k v : FVec Ideal S1x16x2048x64 .f32) : FVec Ideal S1x16x2048x64 .f32 :=
  shapeCast S1x16x2048x64 (ctx3 q k v) shapeCasts_S16x2048x64_S1x16x2048x64

theorem attn4_at (q k : FVec Ideal S1x16x2048x64 .f32) (h : Fin 16) (r j : Fin 2048) :
    attn4 q k (ix4 (0 : Fin 1) h r j) = weight (rowAt q k h r) j := by
  rw [attn4]
  pointwise []
  exact attn3_at q k _ h r j rfl rfl rfl

theorem ctx4_at (q k v : FVec Ideal S1x16x2048x64 .f32) (h : Fin 16) (r : Fin 2048) (d : Fin 64) :
    ctx4 q k v (ix4 (0 : Fin 1) h r d) = ∑ j : Fin 2048, weight (rowAt q k h r) j * v (ix4 (0 : Fin 1) h j d) := by
  rw [ctx4]
  pointwise []
  exact ctx3_at q k v _ h r d rfl rfl rfl

theorem final_attn (c : Dev nD) (hf : Falls (Q m c) (K m c)) :
    Pipeline.afterTail₀ cfgs (dats outAttn outCtx m) 0 (V0 m) [hostOps1] c main_v0_1 = attn4 (Q m c) (K m c) := by
  rw [tail_attn, array_attn m outAttn outCtx c (Q m c) (K m c)]
  · rfl
  · intro t z r j
    rw [← row_eq]
    exact outAttn_at _ _ z r j (by rw [row_eq]; exact hf _ _)

theorem final_ctx (c : Dev nD) (hf : Falls (Q m c) (K m c)) :
    Pipeline.afterTail₀ cfgs (dats outAttn outCtx m) 0 (V0 m) [hostOps1] c main_v0_0 = ctx4 (Q m c) (K m c) (U m c) := by
  rw [tail_ctx, array_ctx m outAttn outCtx c (Q m c) (K m c) (U m c)]
  · rfl
  · intro t z r d
    rw [← row_eq]
    refine (outCtx_at _ _ _ z r d (by rw [row_eq]; exact hf _ _)).trans ?_
    exact Finset.sum_congr rfl fun j _ => congrArg (_ * ·) (v_at m c t j d)

/-- The run, from arguments whose rows' leading scores strictly fall. -/
theorem ends (ρ : Dev nD → PrngReg) (hf : ∀ c, Falls (Q m c) (K m c)) :
    θ_run (defs (F := Ideal)) (onTc (τ := τ) (main (F := Ideal))) ⟨m, fun _ => 0, ρ⟩ (fun r => ∀ c : Dev nD,
      r.2.mem ((c : Thread nD τ).loc main_v0_0) = ctx4 (Q m c) (K m c) (U m c)
      ∧ r.2.mem ((c : Thread nD τ).loc main_v0_1) = attn4 (Q m c) (K m c)
      ∧ r.2.mem ((c : Thread nD τ).loc main_arg0) = Q m c
      ∧ r.2.mem ((c : Thread nD τ).loc main_arg1) = K m c
      ∧ r.2.mem ((c : Thread nD τ).loc main_arg2) = U m c) := by
  refine (θ_run _ _ _).mono (fun r h c => ?_) (θ_run_and (run_ends outAttn outCtx m ρ body_run) (quiet outAttn outCtx m ρ body_run))
  exact ⟨((h.1.1 c).2 main_v0_0 (Pipeline.mem_restRefs_of main_v0_0 (by decide) (by decide))).trans (final_ctx m c (hf c)),
    ((h.1.1 c).2 main_v0_1 (Pipeline.mem_restRefs_of main_v0_1 (by decide) (by decide))).trans (final_attn m c (hf c)), h.2.1 c⟩

end Cert.KernelIdeal.Final

end
-- ==== Proof.Leading.lean ====
/- The precondition: every row's leading scores strictly fall. -/
module

public import proofs.«01_k».proof.Pre_leaders_distinct
public import proofs.«01_k».proof.Proof.Reference
public import proofs.«01_k».proof.Proof.Final

@[expose] public section

noncomputable section

namespace Cert.Pre_leaders_distinct.Read

open Cert.Pre_leaders_distinct Idealize.ShloMosaic
open Cert.Attn (ranked ranked_of_lt)
open Cert.ReferenceIdeal.Read (sc sc_at rowAt sorted_vals)
open Cert.KernelIdeal.Final (Falls)

theorem facts : Facts where
  transposes_S1x16x2048x64_S1x16x64x2048_0_1_3_2 := by decide
  shapeCasts_S1x16x2048x64_S16x2048x64 := by decide
  shapeCasts_S1x16x64x2048_S16x64x2048 := by decide
  bcast_S16x2048x2048_S1x16x2048x2048_1_2_3 := by decide
  bcast_S_S1x16x2048x2048 := by decide
  sliceFits_S1x16x2048x2048_S1x16x2048x33 := by decide
  slices_S1x16x2048x33_S1x16x2048x32_0_0_0_0 := by decide
  slices_S1x16x2048x33_S1x16x2048x32_0_0_0_1 := by decide
  dot_S16x2048x64_S16x64x2048_S16x2048x2048_2_1_1_2_0_0_wf := by decide

variable [Facts]
open Facts

/-- One more leading value than the reference keeps. -/
def tops (x : FVec Ideal S1x16x2048x2048 .f32) : FVec Ideal S1x16x2048x33 .f32 :=
  (Host.topK S1x16x2048x33 3 (FloatOps.cmpfTotal (F := Ideal) .gt) x sliceFits_S1x16x2048x2048_S1x16x2048x33).1

/-- Each of them against the next. -/
def falls (y : FVec Ideal S1x16x2048x33 .f32) : IVec S1x16x2048x32 1 :=
  cmpf (F := Ideal) .ogt (extractStridedSlice S1x16x2048x32 ![0, 0, 0, 0] y slices_S1x16x2048x33_S1x16x2048x32_0_0_0_0)
    (extractStridedSlice S1x16x2048x32 ![0, 0, 0, 1] y slices_S1x16x2048x33_S1x16x2048x32_0_0_0_1)

set_option maxRecDepth 8192 in
theorem fn_eq (q k v : FVec Ideal S1x16x2048x64 .f32) : fn (F := Ideal) q k v = falls (tops (sc q k)) := rfl

theorem tops_at (x : FVec Ideal S1x16x2048x2048 .f32) (h : Fin 16) (i : Fin 2048) (n : Fin 33) :
    tops x (ix4 (0 : Fin 1) h i n) = ranked (fun j => x (ix4 (0 : Fin 1) h i j)) n.val := by
  rw [tops, Host.topK, ranked_of_lt _ (by omega)]
  pointwise []
  exact sorted_vals x _ h i _

theorem falls_at (y : FVec Ideal S1x16x2048x33 .f32) (h : Fin 16) (i : Fin 2048) (n : Fin 32) (hy : falls y (ix4 (0 : Fin 1) h i n) = 1#1) :
    y (ix4 (0 : Fin 1) h i (⟨n.val + 1, by omega⟩ : Fin 33)) < y (ix4 (0 : Fin 1) h i (⟨n.val, by omega⟩ : Fin 33)) := by
  revert hy
  rw [falls]
  pointwise []
  intro hy
  have hn : (⟨1 + n.val, by omega⟩ : Fin 33) = ⟨n.val + 1, by omega⟩ := Fin.ext (Nat.add_comm _ _)
  rw [hn] at hy
  by_contra hlt
  rw [decide_eq_false hlt] at hy
  exact absurd hy (by decide)

/-- The precondition says exactly that. -/
theorem falls_of (q k v : FVec Ideal S1x16x2048x64 .f32) (hp : fn (F := Ideal) q k v = fun _ => 1#1) : Falls q k := by
  intro h i n hn
  have hx : (fun j => sc q k (ix4 (0 : Fin 1) h i j)) = rowAt q k h i := funext fun j => sc_at q k h i j
  have := falls_at (tops (sc q k)) h i ⟨n, hn⟩ (by rw [← fn_eq q k v, hp])
  rwa [tops_at, tops_at, hx] at this

end Cert.Pre_leaders_distinct.Read

end
-- ==== Proof.Agree.lean ====
/- The two programs' results agree. -/
module

public import proofs.«01_k».proof.Proof.Leading

@[expose] public section

noncomputable section

namespace Cert.Agree

open Idealize.ShloMosaic
open Cert.ReferenceIdeal.Read (sc sparse norm sums weights_eq sums_eq weights_at sums_weights_at)
open Cert.KernelIdeal.Final (Falls attn4 attn4_at ctx4 ctx4_at)
open Cert.KernelIdeal (S1x16x2048x64 S1x16x2048x2048)

theorem attn_index (i : S1x16x2048x2048.Idx) : ∃ (h : Fin 16) (r j : Fin 2048), i = ix4 (0 : Fin 1) h r j :=
  ⟨i 1, i 2, i 3, funext fun a => by
    fin_cases a
    · exact Fin.ext (Nat.lt_one_iff.1 (i 0).isLt)
    · rfl
    · rfl
    · rfl⟩

theorem ctx_index (i : S1x16x2048x64.Idx) : ∃ (h : Fin 16) (r : Fin 2048) (d : Fin 64), i = ix4 (0 : Fin 1) h r d :=
  ⟨i 1, i 2, i 3, funext fun a => by
    fin_cases a
    · exact Fin.ext (Nat.lt_one_iff.1 (i 0).isLt)
    · rfl
    · rfl
    · rfl⟩

theorem attn_eq (q k : FVec Ideal S1x16x2048x64 .f32) (hf : Falls q k) : norm (sparse (sc q k)) = attn4 q k := by
  funext i
  obtain ⟨h, r, j, rfl⟩ := attn_index i
  rw [attn4_at]
  exact weights_at q k h r j (hf h r)

theorem ctx_eq (q k v : FVec Ideal S1x16x2048x64 .f32) (hf : Falls q k) : sums (norm (sparse (sc q k))) v = ctx4 q k v := by
  funext i
  obtain ⟨h, r, d, rfl⟩ := ctx_index i
  rw [ctx4_at]
  exact sums_weights_at q k v h r d (hf h r)

end Cert.Agree

end
-- ==== Proof.lean ====
/- The claims, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The idealized reference leaves its arguments and no semaphore raised. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun _ h => ⟨fun c => ⟨(h c).2.2.1, (h c).2.2.2.1, (h c).2.2.2.2⟩, sem_eq_zero_of_no_sems (by decide) _⟩)
    (Cert.ReferenceIdeal.Value.run (F := Ideal) m g)

/-- The two idealized programs end with equal results, when every row's leading scores strictly fall. -/
theorem agrees : Cert.algebraic_KernelIdeal_ReferenceIdeal_pre_leaders_distinct (hKernelIdeal := Cert.KernelIdeal.Gen.facts)
    (hReferenceIdeal := Cert.ReferenceIdeal.Gen.facts) (hPre_leaders_distinct := Cert.Pre_leaders_distinct.Read.facts) := by
  intro m g m' g' hp ha
  have hf (c : Dev Cert.KernelIdeal.nD) : Cert.KernelIdeal.Final.Falls (Cert.KernelIdeal.Final.Q m c) (Cert.KernelIdeal.Final.K m c) :=
    letI := Cert.Pre_leaders_distinct.Read.facts
    Cert.Pre_leaders_distinct.Read.falls_of _ _ _ (hp c)
  refine ⟨fun c => Cert.KernelIdeal.Final.ctx4 (Cert.KernelIdeal.Final.Q m c) (Cert.KernelIdeal.Final.K m c) (Cert.KernelIdeal.Final.U m c),
    fun c => Cert.KernelIdeal.Final.attn4 (Cert.KernelIdeal.Final.Q m c) (Cert.KernelIdeal.Final.K m c),
    Cert.KernelIdeal.Final.ends m g hf, ?_⟩
  refine (θ_run _ _ _).mono (fun r h c => ⟨(h c).1.trans ?_, (h c).2.1.trans ?_, (h c).2.2⟩) (Cert.ReferenceIdeal.Value.run (F := Ideal) m' g')
  · rw [Cert.ReferenceIdeal.Read.sums_eq, (ha c).1, (ha c).2.1, (ha c).2.2]
    exact Cert.Agree.ctx_eq _ _ _ (hf c)
  · rw [Cert.ReferenceIdeal.Read.weights_eq, (ha c).1, (ha c).2.1]
    exact Cert.Agree.attn_eq _ _ (hf c)

/-- Every claim of the certificate. -/
theorem claim : Cert.Claim := ⟨Cert.Kernel.Gen.facts, Cert.KernelIdeal.Gen.facts, Cert.ReferenceIdeal.Gen.facts, Cert.Pre_leaders_distinct.Read.facts,
  fun m g _ => Cert.Kernel.Short.quiet m g,
  fun m g _ => Cert.KernelIdeal.Short.quiet Attn.outAttn Attn.outCtx m g Cert.KernelIdeal.Short.body_run,
  fun m g _ => Cert.KernelIdeal.Short.quiet Attn.outAttn Attn.outCtx m g Cert.KernelIdeal.Short.body_run,
  fun m g _ => reference_quiet m g,
  fun m g _ => reference_quiet m g,
  trivial,
  agrees⟩

end Cert.Proof

end
